-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojCtx (m : (ℓ : Loc Cert.InprojCtx.nD Cert.InprojCtx.τ Cert.InprojCtx.sig) → Buf (Elt Bits) ℓ) : Prop :=
  True

def Pre_InprojCtxIdeal (m : (ℓ : Loc Cert.InprojCtxIdeal.nD Cert.InprojCtxIdeal.τ Cert.InprojCtxIdeal.sig) → Buf (Elt Ideal) ℓ) : Prop :=
  True

def Pre_InprojCtxRefIdeal (m : (ℓ : Loc Cert.InprojCtxRefIdeal.nD Cert.InprojCtxRefIdeal.τ Cert.InprojCtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_InprojCtx [hInprojCtx : Cert.InprojCtx.Facts] : Prop :=
  ∀ (m : (ℓ : Loc Cert.InprojCtx.nD Cert.InprojCtx.τ Cert.InprojCtx.sig) → Buf (Elt Bits) ℓ) (g : Dev Cert.InprojCtx.nD → PrngReg), Pre_InprojCtx m →
    θ_run (Cert.InprojCtx.defs (F := Bits)) (onTc (τ := Cert.InprojCtx.τ) (Cert.InprojCtx.main (F := Bits))) ⟨m, fun _ => 0, g⟩ (fun r => (∀ c : Dev Cert.InprojCtx.nD,
      r.2.mem ((c.tc : Thread Cert.InprojCtx.nD Cert.InprojCtx.τ).loc Cert.InprojCtx.main_arg0) = m ((c.tc : Thread Cert.InprojCtx.nD Cert.InprojCtx.τ).loc Cert.InprojCtx.main_arg0)
      ∧ r.2.mem ((c.tc : Thread Cert.InprojCtx.nD Cert.InprojCtx.τ).loc Cert.InprojCtx.main_arg1) = m ((c.tc : Thread Cert.InprojCtx.nD Cert.InprojCtx.τ).loc Cert.InprojCtx.main_arg1)
      ∧ r.2.mem ((c.tc : Thread Cert.InprojCtx.nD Cert.InprojCtx.τ).loc Cert.InprojCtx.main_arg2) = m ((c.tc : Thread Cert.InprojCtx.nD Cert.InprojCtx.τ).loc Cert.InprojCtx.main_arg2)
      ∧ r.2.mem ((c.tc : Thread Cert.InprojCtx.nD Cert.InprojCtx.τ).loc Cert.InprojCtx.main_arg3) = m ((c.tc : Thread Cert.InprojCtx.nD Cert.InprojCtx.τ).loc Cert.InprojCtx.main_arg3))
      ∧ r.2.sem = fun _ => 0)

def quiescent_InprojCtxIdeal [hInprojCtxIdeal : Cert.InprojCtxIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ r.2.sem = fun _ => 0)

def quiescent_InprojCtxRefIdeal [hInprojCtxRefIdeal : Cert.InprojCtxRefIdeal.Facts] : Prop :=
  ∀ (m : (ℓ : Loc Cert.InprojCtxRefIdeal.nD Cert.InprojCtxRefIdeal.τ Cert.InprojCtxRefIdeal.sig) → Buf (Elt Ideal) ℓ) (g : Dev Cert.InprojCtxRefIdeal.nD → PrngReg), Pre_InprojCtxRefIdeal m →
    θ_run (Cert.InprojCtxRefIdeal.defs (F := Ideal)) (onTc (τ := Cert.InprojCtxRefIdeal.τ) (Cert.InprojCtxRefIdeal.main (F := Ideal))) ⟨m, fun _ => 0, g⟩ (fun r => (∀ c : Dev Cert.InprojCtxRefIdeal.nD,
      r.2.mem ((c.tc : Thread Cert.InprojCtxRefIdeal.nD Cert.InprojCtxRefIdeal.τ).loc Cert.InprojCtxRefIdeal.main_arg0) = m ((c.tc : Thread Cert.InprojCtxRefIdeal.nD Cert.InprojCtxRefIdeal.τ).loc Cert.InprojCtxRefIdeal.main_arg0)
      ∧ r.2.mem ((c.tc : Thread Cert.InprojCtxRefIdeal.nD Cert.InprojCtxRefIdeal.τ).loc Cert.InprojCtxRefIdeal.main_arg1) = m ((c.tc : Thread Cert.InprojCtxRefIdeal.nD Cert.InprojCtxRefIdeal.τ).loc Cert.InprojCtxRefIdeal.main_arg1)
      ∧ r.2.mem ((c.tc : Thread Cert.InprojCtxRefIdeal.nD Cert.InprojCtxRefIdeal.τ).loc Cert.InprojCtxRefIdeal.main_arg2) = m ((c.tc : Thread Cert.InprojCtxRefIdeal.nD Cert.InprojCtxRefIdeal.τ).loc Cert.InprojCtxRefIdeal.main_arg2)
      ∧ r.2.mem ((c.tc : Thread Cert.InprojCtxRefIdeal.nD Cert.InprojCtxRefIdeal.τ).loc Cert.InprojCtxRefIdeal.main_arg3) = m ((c.tc : Thread Cert.InprojCtxRefIdeal.nD Cert.InprojCtxRefIdeal.τ).loc Cert.InprojCtxRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_InprojCtx_InprojCtxIdeal : Prop :=
  True

def algebraic_InprojCtxIdeal_InprojCtxRefIdeal [hInprojCtxIdeal : Cert.InprojCtxIdeal.Facts] [hInprojCtxRefIdeal : Cert.InprojCtxRefIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg)
    (m' : (ℓ : Loc Cert.InprojCtxRefIdeal.nD Cert.InprojCtxRefIdeal.τ Cert.InprojCtxRefIdeal.sig) → Buf (Elt Ideal) ℓ) (g' : Dev Cert.InprojCtxRefIdeal.nD → PrngReg), Pre_InprojCtxIdeal m →
    (∀ c : Dev Cert.InprojCtxIdeal.nD,
      m' ((c.tc : Thread Cert.InprojCtxRefIdeal.nD Cert.InprojCtxRefIdeal.τ).loc Cert.InprojCtxRefIdeal.main_arg0) = m ((c.tc : Thread Cert.InprojCtxIdeal.nD Cert.InprojCtxIdeal.τ).loc Cert.InprojCtxIdeal.main_arg0)
      ∧ m' ((c.tc : Thread Cert.InprojCtxRefIdeal.nD Cert.InprojCtxRefIdeal.τ).loc Cert.InprojCtxRefIdeal.main_arg1) = m ((c.tc : Thread Cert.InprojCtxIdeal.nD Cert.InprojCtxIdeal.τ).loc Cert.InprojCtxIdeal.main_arg1)
      ∧ m' ((c.tc : Thread Cert.InprojCtxRefIdeal.nD Cert.InprojCtxRefIdeal.τ).loc Cert.InprojCtxRefIdeal.main_arg2) = m ((c.tc : Thread Cert.InprojCtxIdeal.nD Cert.InprojCtxIdeal.τ).loc Cert.InprojCtxIdeal.main_arg2)
      ∧ m' ((c.tc : Thread Cert.InprojCtxRefIdeal.nD Cert.InprojCtxRefIdeal.τ).loc Cert.InprojCtxRefIdeal.main_arg3) = m ((c.tc : Thread Cert.InprojCtxIdeal.nD Cert.InprojCtxIdeal.τ).loc Cert.InprojCtxIdeal.main_arg3)) →
    ∃ (v0 : (c : Dev Cert.InprojCtxIdeal.nD) → Buf (Elt Ideal) ((c.tc : Thread Cert.InprojCtxIdeal.nD Cert.InprojCtxIdeal.τ).loc Cert.InprojCtxIdeal.main_v3)),
      θ_run (Cert.InprojCtxIdeal.defs (F := Ideal)) (onTc (τ := Cert.InprojCtxIdeal.τ) (Cert.InprojCtxIdeal.main (F := Ideal))) ⟨m, fun _ => 0, g⟩ (fun r => ∀ c : Dev Cert.InprojCtxIdeal.nD,
          r.2.mem ((c.tc : Thread Cert.InprojCtxIdeal.nD Cert.InprojCtxIdeal.τ).loc Cert.InprojCtxIdeal.main_v3) = v0 c
          ∧ r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
          ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
          ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
          ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ θ_run (Cert.InprojCtxRefIdeal.defs (F := Ideal)) (onTc (τ := Cert.InprojCtxRefIdeal.τ) (Cert.InprojCtxRefIdeal.main (F := Ideal))) ⟨m', fun _ => 0, g'⟩ (fun r => ∀ c : Dev Cert.InprojCtxRefIdeal.nD,
          r.2.mem ((c.tc : Thread Cert.InprojCtxRefIdeal.nD Cert.InprojCtxRefIdeal.τ).loc Cert.InprojCtxRefIdeal.main_v32) = v0 c
          ∧ r.2.mem ((c.tc : Thread Cert.InprojCtxRefIdeal.nD Cert.InprojCtxRefIdeal.τ).loc Cert.InprojCtxRefIdeal.main_arg0) = m' ((c.tc : Thread Cert.InprojCtxRefIdeal.nD Cert.InprojCtxRefIdeal.τ).loc Cert.InprojCtxRefIdeal.main_arg0)
          ∧ r.2.mem ((c.tc : Thread Cert.InprojCtxRefIdeal.nD Cert.InprojCtxRefIdeal.τ).loc Cert.InprojCtxRefIdeal.main_arg1) = m' ((c.tc : Thread Cert.InprojCtxRefIdeal.nD Cert.InprojCtxRefIdeal.τ).loc Cert.InprojCtxRefIdeal.main_arg1)
          ∧ r.2.mem ((c.tc : Thread Cert.InprojCtxRefIdeal.nD Cert.InprojCtxRefIdeal.τ).loc Cert.InprojCtxRefIdeal.main_arg2) = m' ((c.tc : Thread Cert.InprojCtxRefIdeal.nD Cert.InprojCtxRefIdeal.τ).loc Cert.InprojCtxRefIdeal.main_arg2)
          ∧ r.2.mem ((c.tc : Thread Cert.InprojCtxRefIdeal.nD Cert.InprojCtxRefIdeal.τ).loc Cert.InprojCtxRefIdeal.main_arg3) = m' ((c.tc : Thread Cert.InprojCtxRefIdeal.nD Cert.InprojCtxRefIdeal.τ).loc Cert.InprojCtxRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v10) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hInprojCtx : Cert.InprojCtx.Facts) (hInprojCtxIdeal : Cert.InprojCtxIdeal.Facts) (hInprojCtxRefIdeal : Cert.InprojCtxRefIdeal.Facts) (hMod : Cert.Mod.Facts) (hModIdeal : Cert.ModIdeal.Facts) (hModRefIdeal : Cert.ModRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojCtx (hInprojCtx := hInprojCtx)
    ∧ quiescent_InprojCtxIdeal (hInprojCtxIdeal := hInprojCtxIdeal)
    ∧ quiescent_InprojCtxRefIdeal (hInprojCtxRefIdeal := hInprojCtxRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_InprojCtx_InprojCtxIdeal
    ∧ algebraic_InprojCtxIdeal_InprojCtxRefIdeal (hInprojCtxIdeal := hInprojCtxIdeal) (hInprojCtxRefIdeal := hInprojCtxRefIdeal)
    ∧ preserves_Mod_ModIdeal
    ∧ algebraic_ModIdeal_ModRefIdeal (hModIdeal := hModIdeal) (hModRefIdeal := hModRefIdeal)
-- ==== Pre_finite_scores.lean ====
abbrev S4x2048x11264 : Shape := ⟨3, ![4, 2048, 11264]⟩
abbrev S4x2048x256 : Shape := ⟨3, ![4, 2048, 256]⟩
abbrev S4x256x256 : Shape := ⟨3, ![4, 256, 256]⟩
abbrev S128 : Shape := ⟨1, ![128]⟩
abbrev S_ : Shape := ⟨0, ![]⟩

class Facts : Prop where
  bitsLt_bf16_f32 : FTy.bits .bf16 < FTy.bits .f32
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x2048x11264 .bf16) (main_arg1 : FVec F S4x2048x256 .bf16) (main_arg2 : FVec F S4x256x256 .bf16) (main_arg3 : FVec F S4x2048x256 .bf16) (main_arg4 : FVec F S4x256x256 .bf16) (main_arg5 : FVec F S128 .f32) : IVec S_ 1 :=
  let main_v0 : FVec F S4x2048x256 .f32 := (extf .f32 · bitsLt_bf16_f32) main_arg1
  let main_v1 : FVec F S4x2048x256 .f32 := Host.absf main_v0
  let main_cst : FVec F S_ .f32 := constant S_ .f32 0x7F800000#32
  let main_v2 : FVec F S4x2048x256 .f32 := broadcastInDim S4x2048x256 ![] bcast_S_S4x2048x256 main_cst
  let main_v3 : IVec S4x2048x256 1 := cmpf .olt main_v1 main_v2
  let main_c : IVec S_ 1 := constantI S_ 1 1#1
  let main_v4 : IVec S_ 1 := (fun x v => Host.reduce IntOp.andi x v reducesTo_S4x2048x256_S_d0_1_2 h_S_) main_v3 main_c
  let main_v5 : FVec F S4x256x256 .f32 := (extf .f32 · bitsLt_bf16_f32) main_arg2
  let main_v6 : FVec F S4x256x256 .f32 := Host.absf main_v5
  let main_cst_0 : FVec F S_ .f32 := constant S_ .f32 0x7F800000#32
  let main_v7 : FVec F S4x256x256 .f32 := broadcastInDim S4x256x256 ![] bcast_S_S4x256x256 main_cst_0
  let main_v8 : IVec S4x256x256 1 := cmpf .olt main_v6 main_v7
  let main_c_1 : IVec S_ 1 := constantI S_ 1 1#1
  let main_v9 : IVec S_ 1 := (fun x v => Host.reduce IntOp.andi x v reducesTo_S4x256x256_S_d0_1_2 h_S_) main_v8 main_c_1
  let main_v10 : IVec S_ 1 := andi main_v4 main_v9
  let main_v11 : FVec F S128 .f32 := Host.absf main_arg5
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  main_v15
-- ==== Kernel.lean ====
abbrev S4x2048x11264 : Shape := ⟨3, ![4, 2048, 11264]⟩
abbrev S4x2048x256 : Shape := ⟨3, ![4, 2048, 256]⟩
abbrev S4x256x256 : Shape := ⟨3, ![4, 256, 256]⟩
abbrev S128 : Shape := ⟨1, ![128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S4x2048x2x128 : Shape := ⟨4, ![4, 2048, 2, 128]⟩
abbrev S4x2048x2x256 : Shape := ⟨4, ![4, 2048, 2, 256]⟩
abbrev S4x2048x512 : Shape := ⟨3, ![4, 2048, 512]⟩
abbrev S4x256x2x128 : Shape := ⟨4, ![4, 256, 2, 128]⟩
abbrev S4x256x2x256 : Shape := ⟨4, ![4, 256, 2, 256]⟩
abbrev S4x256x512 : Shape := ⟨3, ![4, 256, 512]⟩
abbrev S1x128 : Shape := ⟨2, ![1, 128]⟩
abbrev S4x2048x1024 : Shape := ⟨3, ![4, 2048, 1024]⟩
abbrev S1x512x1024 : Shape := ⟨3, ![1, 512, 1024]⟩
abbrev S1x2048x256 : Shape := ⟨3, ![1, 2048, 256]⟩
abbrev S1x256x256 : Shape := ⟨3, ![1, 256, 256]⟩
abbrev S1x2048x512 : Shape := ⟨3, ![1, 2048, 512]⟩
abbrev S1x256x512 : Shape := ⟨3, ![1, 256, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x2048x128 : Shape := ⟨3, ![1, 2048, 128]⟩
abbrev S512x2048 : Shape := ⟨2, ![512, 2048]⟩
abbrev S1x256x128 : Shape := ⟨3, ![1, 256, 128]⟩
abbrev S256x128 : Shape := ⟨2, ![256, 128]⟩
abbrev S512x256 : Shape := ⟨2, ![512, 256]⟩
abbrev S2048x256 : Shape := ⟨2, ![2048, 256]⟩
abbrev S256x256 : Shape := ⟨2, ![256, 256]⟩

abbrev nBuf : Space → Nat
  | .hbm => 85
  | .vmem => 19
  | .smem => 0
  | _ => 0

abbrev bufTy : (tb : Table) → Fin (tcTables nBuf tb) → BufTy
  | .hbm, ⟨0, _⟩ => ⟨S4x2048x11264, .bf16⟩
  | .hbm, ⟨1, _⟩ => ⟨S4x2048x256, .bf16⟩
  | .hbm, ⟨2, _⟩ => ⟨S4x256x256, .bf16⟩
  | .hbm, ⟨3, _⟩ => ⟨S4x2048x256, .bf16⟩
  | .hbm, ⟨4, _⟩ => ⟨S4x256x256, .bf16⟩
  | .hbm, ⟨5, _⟩ => ⟨S128, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x1, .f32⟩
  | .hbm, ⟨63, _⟩ => ⟨S1x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x64, .f32⟩
  | .hbm, ⟨68, _⟩ => ⟨S2048x64, .f32⟩
  | .hbm, ⟨69, _⟩ => ⟨S2048x64, .f32⟩
  | .hbm, ⟨70, _⟩ => ⟨S2048x128, .f32⟩
  | .hbm, ⟨71, _⟩ => ⟨S2048x64, .f32⟩
  | .hbm, ⟨72, _⟩ => ⟨S2048x128, .f32⟩
  | .hbm, ⟨73, _⟩ => ⟨S4x2048x2x128, .bf16⟩
  | .hbm, ⟨74, _⟩ => ⟨S_, .bf16⟩
  | .hbm, ⟨75, _⟩ => ⟨S4x2048x2x128, .bf16⟩
  | .hbm, ⟨76, _⟩ => ⟨S4x2048x2x256, .bf16⟩
  | .hbm, ⟨77, _⟩ => ⟨S4x2048x512, .bf16⟩
  | .hbm, ⟨78, _⟩ => ⟨S4x256x2x128, .bf16⟩
  | .hbm, ⟨79, _⟩ => ⟨S_, .bf16⟩
  | .hbm, ⟨80, _⟩ => ⟨S4x256x2x128, .bf16⟩
  | .hbm, ⟨81, _⟩ => ⟨S4x256x2x256, .bf16⟩
  | .hbm, ⟨82, _⟩ => ⟨S4x256x512, .bf16⟩
  | .hbm, ⟨83, _⟩ => ⟨S1x128, .f32⟩
  | .hbm, ⟨84, _⟩ => ⟨S4x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x512x1024, .bf16⟩
  | .local _ .vmem, ⟨18, _⟩ => ⟨S1x512x1024, .bf16⟩
  | _, _ => ⟨S4x2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_2 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_3 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S4x2048x11264 : Shape := ⟨3, ![4, 2048, 11264]⟩
abbrev S4x2048x256 : Shape := ⟨3, ![4, 2048, 256]⟩
abbrev S4x256x256 : Shape := ⟨3, ![4, 256, 256]⟩
abbrev S128 : Shape := ⟨1, ![128]⟩
abbrev S4x2048x1024 : Shape := ⟨3, ![4, 2048, 1024]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x2304x256 : Shape := ⟨3, ![4, 2304, 256]⟩
abbrev S4x2304x2x128 : Shape := ⟨4, ![4, 2304, 2, 128]⟩
abbrev S4x2048x2x4x128 : Shape := ⟨5, ![4, 2048, 2, 4, 128]⟩
abbrev S4x2x2304x2048x4 : Shape := ⟨5, ![4, 2, 2304, 2048, 4]⟩
abbrev S4x2x4x2048x2304 : Shape := ⟨5, ![4, 2, 4, 2048, 2304]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩

abbrev nBuf : Space → Nat
  | .hbm => 150
  | .vmem => 0
  | .smem => 0
  | _ => 0

abbrev hbmTy0_0 (i : Nat) : BufTy := match i % 128 with
  | 0 => ⟨S4x2048x11264, .bf16⟩
  | 1 => ⟨S4x2048x256, .bf16⟩
  | 2 => ⟨S4x256x256, .bf16⟩
  | 3 => ⟨S4x2048x256, .bf16⟩
  | 4 => ⟨S4x256x256, .bf16⟩
  | 5 => ⟨S128, .f32⟩
  | 6 => ⟨S4x2048x11264, .f32⟩
  | 7 => ⟨S4x2048x1024, .f32⟩
  | 8 => ⟨S4x2048x8x128, .f32⟩
  | 9 => ⟨S4x2048x11264, .f32⟩
  | 10 => ⟨S4x2048x1024, .f32⟩
  | 11 => ⟨S4x2048x8x128, .f32⟩
  | 12 => ⟨S_, .f32⟩
  | 13 => ⟨S4x2048x8, .f32⟩
  | 14 => ⟨S4x2048x8x1, .f32⟩
  | 15 => ⟨S_, .f32⟩
  | 16 => ⟨S4x2048x8x1, .f32⟩
  | 17 => ⟨S4x2048x8x1, .f32⟩
  | 18 => ⟨S_, .f32⟩
  | 19 => ⟨S4x2048x8x1, .f32⟩
  | 20 => ⟨S4x2048x8x1, .f32⟩
  | 21 => ⟨S4x2048x8x1, .f32⟩
  | 22 => ⟨S4x2048x8x128, .f32⟩
  | 23 => ⟨S4x2048x8x128, .f32⟩
  | 24 => ⟨S1x1x1x128, .f32⟩
  | 25 => ⟨S4x2048x8x128, .f32⟩
  | 26 => ⟨S4x2048x8x128, .f32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S2048, .f32⟩
  | 47 => ⟨S2048, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i1⟩
  | 59 => ⟨S_, .i32⟩
  | 60 => ⟨S2048, .i32⟩
  | 61 => ⟨S2048, .i1⟩
  | 62 => ⟨S_, .i32⟩
  | 63 => ⟨S_, .i1⟩
  | 64 => ⟨S2048, .i1⟩
  | 65 => ⟨S2048, .i1⟩
  | 66 => ⟨S2048, .i1⟩
  | 67 => ⟨S2048, .i32⟩
  | 68 => ⟨S2048, .i32⟩
  | 69 => ⟨S2048, .i32⟩
  | 70 => ⟨S2048, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S2048x1, .f32⟩
  | 80 => ⟨S1x32, .f32⟩
  | 81 => ⟨S2048x32, .f32⟩
  | 82 => ⟨S2048x32, .f32⟩
  | 83 => ⟨S2048x32, .f32⟩
  | 84 => ⟨S2048x1, .f32⟩
  | 85 => ⟨S1x32, .f32⟩
  | 86 => ⟨S2048x32, .f32⟩
  | 87 => ⟨S2048x32, .f32⟩
  | 88 => ⟨S2048x32, .f32⟩
  | 89 => ⟨S2048x64, .f32⟩
  | 90 => ⟨S2048x64, .f32⟩
  | 91 => ⟨S1x2048x1x64, .f32⟩
  | 92 => ⟨S2048x64, .f32⟩
  | 93 => ⟨S1x2048x1x64, .f32⟩
  | 94 => ⟨S4x2048x8x64, .f32⟩
  | 95 => ⟨S4x2048x8x64, .f32⟩
  | 96 => ⟨S4x2048x8x64, .f32⟩
  | 97 => ⟨S4x2048x8x64, .f32⟩
  | 98 => ⟨S4x2048x8x64, .f32⟩
  | 99 => ⟨S4x2048x8x64, .f32⟩
  | 100 => ⟨S4x2048x8x64, .f32⟩
  | 101 => ⟨S4x2048x8x64, .f32⟩
  | 102 => ⟨S4x2048x8x64, .f32⟩
  | 103 => ⟨S4x2048x8x64, .f32⟩
  | 104 => ⟨S4x2048x8x64, .f32⟩
  | 105 => ⟨S4x2048x8x64, .f32⟩
  | 106 => ⟨S4x2048x8x128, .f32⟩
  | 107 => ⟨S4x256x256, .f32⟩
  | 108 => ⟨S4x2048x256, .f32⟩
  | 109 => ⟨S4x2304x256, .f32⟩
  | 110 => ⟨S4x2304x2x128, .f32⟩
  | 111 => ⟨S4x256x256, .f32⟩
  | 112 => ⟨S4x2048x256, .f32⟩
  | 113 => ⟨S4x2304x256, .f32⟩
  | 114 => ⟨S4x2304x2x128, .f32⟩
  | 115 => ⟨S4x2048x2x4x128, .f32⟩
  | 116 => ⟨S4x2x2304x2048x4, .f32⟩
  | 117 => ⟨S4x2x4x2048x2304, .f32⟩
  | 118 => ⟨S_, .f32⟩
  | 119 => ⟨S_, .f32⟩
  | 120 => ⟨S4x2x4x2048x2304, .f32⟩
  | 121 => ⟨S4x2x4x2048x2304, .f32⟩
  | 122 => ⟨S_, .f32⟩
  | 123 => ⟨S4x2x4x2048, .f32⟩
  | 124 => ⟨S_, .f32⟩
  | 125 => ⟨S4x2x4x2048, .f32⟩
  | 126 => ⟨S4x2x4x2048, .f32⟩
  | 127 => ⟨S4x2x4x2048x1, .f32⟩
  | _ => ⟨S4x2048x11264, .bf16⟩

abbrev hbmTy0_1 (i : Nat) : BufTy := match i % 128 with
  | 0 => ⟨S4x2x4x2048x2304, .f32⟩
  | 1 => ⟨S4x2x4x2048x2304, .f32⟩
  | 2 => ⟨S4x2x4x2048x2304, .f32⟩
  | 3 => ⟨S_, .f32⟩
  | 4 => ⟨S4x2x4x2048, .f32⟩
  | 5 => ⟨S4x2x4x2048x1, .f32⟩
  | 6 => ⟨S4x2x4x2048x2304, .f32⟩
  | 7 => ⟨S4x2x4x2048x2304, .f32⟩
  | 8 => ⟨S4x2x128x4x2048, .f32⟩
  | 9 => ⟨S4x2048x2x4x128, .f32⟩
  | 10 => ⟨S4x2048x1024, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .bf16⟩
  | _ => ⟨S4x2048x11264, .bf16⟩

abbrev hbmTy (i : Nat) : BufTy := match i / 128 with
  | 0 => hbmTy0_0 i
  | 1 => hbmTy0_1 i
  | _ => ⟨S4x2048x11264, .bf16⟩

abbrev bufTy : (tb : Table) → Fin (tcTables nBuf tb) → BufTy
  | .hbm, ⟨i, _⟩ => hbmTy i
  | _, _ => ⟨S4x2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_3 : Ref sig .tc := ⟨.hbm, 73, rfl⟩
abbrev main_v26 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_5 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_6 : Ref sig .tc := ⟨.hbm, 122, rfl⟩
abbrev main_v72 : Ref sig .tc := ⟨.hbm, 123, rfl⟩
abbrev main_cst_7 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_8 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_call2_v0 : Ref sig .tc := ⟨.hbm, 139, rfl⟩
abbrev main_call2_v1 : Ref sig .tc := ⟨.hbm, 140, rfl⟩
abbrev main_call2_cst : Ref sig .tc := ⟨.hbm, 141, rfl⟩
abbrev main_call2_v2 : Ref sig .tc := ⟨.hbm, 142, rfl⟩
abbrev main_call2_v3 : Ref sig .tc := ⟨.hbm, 143, rfl⟩
abbrev main_call2_cst_0 : Ref sig .tc := ⟨.hbm, 144, rfl⟩
abbrev main_call2_v4 : Ref sig .tc := ⟨.hbm, 145, rfl⟩
abbrev main_call2_v5 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩

abbrev nD : Nat := 1
abbrev τ : Topo := Topo.v7x

variable {F : FTy → Type} [FloatOps F]
-- ==== Merge.lean ====
abbrev S4x2048x1024 : Shape := ⟨3, ![4, 2048, 1024]⟩
abbrev S4x2048x11264 : Shape := ⟨3, ![4, 2048, 11264]⟩
abbrev S4x2048x2048 : Shape := ⟨3, ![4, 2048, 2048]⟩
abbrev S8x6144 : Shape := ⟨2, ![8, 6144]⟩
abbrev S128 : Shape := ⟨1, ![128]⟩
abbrev S1024x2048 : Shape := ⟨2, ![1024, 2048]⟩
abbrev S2048x2048 : Shape := ⟨2, ![2048, 2048]⟩
abbrev S8x1x6144 : Shape := ⟨3, ![8, 1, 6144]⟩
abbrev S1x128 : Shape := ⟨2, ![1, 128]⟩
abbrev S1x512x1024 : Shape := ⟨3, ![1, 512, 1024]⟩
abbrev S1x512x2048 : Shape := ⟨3, ![1, 512, 2048]⟩
abbrev S1x1x2048 : Shape := ⟨3, ![1, 1, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x2048 : Shape := ⟨2, ![512, 2048]⟩
abbrev S1x2048 : Shape := ⟨2, ![1, 2048]⟩

abbrev nBuf : Space → Nat
  | .hbm => 16
  | .vmem => 23
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x11264, .bf16⟩
  | .hbm, ⟨3, _⟩ => ⟨S4x2048x1024, .bf16⟩
  | .hbm, ⟨4, _⟩ => ⟨S4x2048x2048, .f32⟩
  | .hbm, ⟨5, _⟩ => ⟨S8x6144, .f32⟩
  | .hbm, ⟨6, _⟩ => ⟨S128, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S8x1x6144, .f32⟩
  | .hbm, ⟨11, _⟩ => ⟨S1x128, .f32⟩
  | .hbm, ⟨12, _⟩ => ⟨S1024x2048, .bf16⟩
  | .hbm, ⟨13, _⟩ => ⟨S1024x2048, .bf16⟩
  | .hbm, ⟨14, _⟩ => ⟨S2048x2048, .bf16⟩
  | .hbm, ⟨15, _⟩ => ⟨S4x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .f32⟩
  | .local _ .vmem, ⟨13, _⟩ => ⟨S1x512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x128, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S1x512x2048, .f32⟩
  | .local _ .vmem, ⟨21, _⟩ => ⟨S1x512x2048, .f32⟩
  | .local _ .vmem, ⟨22, _⟩ => ⟨S512x1024, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S4x2048x1024 : Shape := ⟨3, ![4, 2048, 1024]⟩
abbrev S4x2048x11264 : Shape := ⟨3, ![4, 2048, 11264]⟩
abbrev S4x2048x2048 : Shape := ⟨3, ![4, 2048, 2048]⟩
abbrev S8x6144 : Shape := ⟨2, ![8, 6144]⟩
abbrev S128 : Shape := ⟨1, ![128]⟩
abbrev S1024x2048 : Shape := ⟨2, ![1024, 2048]⟩
abbrev S2048x2048 : Shape := ⟨2, ![2048, 2048]⟩
abbrev S4x2048x8x128 : Shape := ⟨4, ![4, 2048, 8, 128]⟩
abbrev S4x2048 : Shape := ⟨2, ![4, 2048]⟩
abbrev S4x1x2048 : Shape := ⟨3, ![4, 1, 2048]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x11264, .bf16⟩
  | .hbm, ⟨3, _⟩ => ⟨S4x2048x1024, .bf16⟩
  | .hbm, ⟨4, _⟩ => ⟨S4x2048x2048, .f32⟩
  | .hbm, ⟨5, _⟩ => ⟨S8x6144, .f32⟩
  | .hbm, ⟨6, _⟩ => ⟨S128, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S4x2048x11264, .f32⟩
  | .hbm, ⟨11, _⟩ => ⟨S4x2048x1024, .f32⟩
  | .hbm, ⟨12, _⟩ => ⟨S4x2048x8x128, .f32⟩
  | .hbm, ⟨13, _⟩ => ⟨S4x2048x11264, .f32⟩
  | .hbm, ⟨14, _⟩ => ⟨S4x2048x2048, .f32⟩
  | .hbm, ⟨15, _⟩ => ⟨S4x2048x11264, .f32⟩
  | .hbm, ⟨16, _⟩ => ⟨S4x2048x2048, .f32⟩
  | .hbm, ⟨17, _⟩ => ⟨S4x2048, .f32⟩
  | .hbm, ⟨18, _⟩ => ⟨S4x1x2048, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x8x128, .f32⟩
  | .hbm, ⟨23, _⟩ => ⟨S4x2048x8x128, .f32⟩
  | .hbm, ⟨24, _⟩ => ⟨S_, .f32⟩
  | .hbm, ⟨25, _⟩ => ⟨S4x2048x8, .f32⟩
  | .hbm, ⟨26, _⟩ => ⟨S4x2048x8x1, .f32⟩
  | .hbm, ⟨27, _⟩ => ⟨S_, .f32⟩
  | .hbm, ⟨28, _⟩ => ⟨S4x2048x8x1, .f32⟩
  | .hbm, ⟨29, _⟩ => ⟨S4x2048x8x1, .f32⟩
  | .hbm, ⟨30, _⟩ => ⟨S_, .f32⟩
  | .hbm, ⟨31, _⟩ => ⟨S4x2048x8x1, .f32⟩
  | .hbm, ⟨32, _⟩ => ⟨S4x2048x8x1, .f32⟩
  | .hbm, ⟨33, _⟩ => ⟨S4x2048x8x1, .f32⟩
  | .hbm, ⟨34, _⟩ => ⟨S4x2048x8x128, .f32⟩
  | .hbm, ⟨35, _⟩ => ⟨S4x2048x8x128, .f32⟩
  | .hbm, ⟨36, _⟩ => ⟨S1x1x1x128, .f32⟩
  | .hbm, ⟨37, _⟩ => ⟨S4x2048x8x128, .f32⟩
  | .hbm, ⟨38, _⟩ => ⟨S4x2048x8x128, .f32⟩
  | .hbm, ⟨39, _⟩ => ⟨S4x2048x8x128, .f32⟩
  | .hbm, ⟨40, _⟩ => ⟨S4x2048x8x128, .f32⟩
  | .hbm, ⟨41, _⟩ => ⟨S_, .f32⟩
  | .hbm, ⟨42, _⟩ => ⟨S4x2048x8x128, .f32⟩
  | .hbm, ⟨43, _⟩ => ⟨S4x2048x8x128, .f32⟩
  | .hbm, ⟨44, _⟩ => ⟨S_, .f32⟩
  | .hbm, ⟨45, _⟩ => ⟨S4x2048x8x128, .f32⟩
  | .hbm, ⟨46, _⟩ => ⟨S4x2048x8x128, .f32⟩
  | .hbm, ⟨47, _⟩ => ⟨S4x2048x8x128, .f32⟩
  | .hbm, ⟨48, _⟩ => ⟨S4x2048x8x128, .f32⟩
  | .hbm, ⟨49, _⟩ => ⟨S4x2048x1024, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S_, .f32⟩
  | .hbm, ⟨63, _⟩ => ⟨S4x2048x2048, .f32⟩
  | .hbm, ⟨64, _⟩ => ⟨S4x2048x2048, .f32⟩
  | .hbm, ⟨65, _⟩ => ⟨S_, .f32⟩
  | .hbm, ⟨66, _⟩ => ⟨S4x2048x2048, .f32⟩
  | .hbm, ⟨67, _⟩ => ⟨S4x2048x2048, .f32⟩
  | .hbm, ⟨68, _⟩ => ⟨S4x2048x1024, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Inproj.lean ====
abbrev S4x2048x2048 : Shape := ⟨3, ![4, 2048, 2048]⟩
abbrev S8x6144 : Shape := ⟨2, ![8, 6144]⟩
abbrev S2048 : Shape := ⟨1, ![2048]⟩
abbrev S11264x2048 : Shape := ⟨2, ![11264, 2048]⟩
abbrev S8x1x6144 : Shape := ⟨3, ![8, 1, 6144]⟩
abbrev S1x2048 : Shape := ⟨2, ![1, 2048]⟩
abbrev S4x2048x11264 : Shape := ⟨3, ![4, 2048, 11264]⟩
abbrev S1x1024x2048 : Shape := ⟨3, ![1, 1024, 2048]⟩
abbrev S1x1x2048 : Shape := ⟨3, ![1, 1, 2048]⟩
abbrev S2816x2048 : Shape := ⟨2, ![2816, 2048]⟩
abbrev S1x1024x2816 : Shape := ⟨3, ![1, 1024, 2816]⟩
abbrev S1024x2048 : Shape := ⟨2, ![1024, 2048]⟩
abbrev S1024 : Shape := ⟨1, ![1024]⟩
abbrev S1024x1 : Shape := ⟨2, ![1024, 1]⟩
abbrev S1024x2816 : Shape := ⟨2, ![1024, 2816]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8x6144, .f32⟩
  | .hbm, ⟨2, _⟩ => ⟨S2048, .f32⟩
  | .hbm, ⟨3, _⟩ => ⟨S11264x2048, .bf16⟩
  | .hbm, ⟨4, _⟩ => ⟨S8x1x6144, .f32⟩
  | .hbm, ⟨5, _⟩ => ⟨S1x2048, .f32⟩
  | .hbm, ⟨6, _⟩ => ⟨S4x2048x11264, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2816x2048, .bf16⟩
  | .local _ .vmem, ⟨8, _⟩ => ⟨S2816x2048, .bf16⟩
  | .local _ .vmem, ⟨9, _⟩ => ⟨S1x1024x2816, .bf16⟩
  | .local _ .vmem, ⟨10, _⟩ => ⟨S1x1024x2816, .bf16⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2816x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InprojRefIdeal.lean ====
abbrev S4x2048x2048 : Shape := ⟨3, ![4, 2048, 2048]⟩
abbrev S8x6144 : Shape := ⟨2, ![8, 6144]⟩
abbrev S2048 : Shape := ⟨1, ![2048]⟩
abbrev S11264x2048 : Shape := ⟨2, ![11264, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x6144, .f32⟩
  | .hbm, ⟨2, _⟩ => ⟨S2048, .f32⟩
  | .hbm, ⟨3, _⟩ => ⟨S11264x2048, .bf16⟩
  | .hbm, ⟨4, _⟩ => ⟨S4x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S11264x2048, .f32⟩
  | .hbm, ⟨32, _⟩ => ⟨S2048x11264, .f32⟩
  | .hbm, ⟨33, _⟩ => ⟨S4x2048x11264, .f32⟩
  | .hbm, ⟨34, _⟩ => ⟨S4x2048x11264, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== InprojCtx.lean ====
abbrev S4x256x2048 : Shape := ⟨3, ![4, 256, 2048]⟩
abbrev S8x6144 : Shape := ⟨2, ![8, 6144]⟩
abbrev S2048 : Shape := ⟨1, ![2048]⟩
abbrev S11264x2048 : Shape := ⟨2, ![11264, 2048]⟩
abbrev S1x1024x2048 : Shape := ⟨3, ![1, 1024, 2048]⟩
abbrev S8x1x6144 : Shape := ⟨3, ![8, 1, 6144]⟩
abbrev S1x2048 : Shape := ⟨2, ![1, 2048]⟩
abbrev S1x1024x4096 : Shape := ⟨3, ![1, 1024, 4096]⟩
abbrev S1x1x2048 : Shape := ⟨3, ![1, 1, 2048]⟩
abbrev S1024x2048 : Shape := ⟨2, ![1024, 2048]⟩
abbrev S1x1024x1024 : Shape := ⟨3, ![1, 1024, 1024]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S8x6144, .f32⟩
  | .hbm, ⟨2, _⟩ => ⟨S2048, .f32⟩
  | .hbm, ⟨3, _⟩ => ⟨S11264x2048, .bf16⟩
  | .hbm, ⟨4, _⟩ => ⟨S1x1024x2048, .f32⟩
  | .hbm, ⟨5, _⟩ => ⟨S8x1x6144, .f32⟩
  | .hbm, ⟨6, _⟩ => ⟨S1x2048, .f32⟩
  | .hbm, ⟨7, _⟩ => ⟨S1x1024x4096, .bf16⟩
  | .local _ .vmem, ⟨0, _⟩ => ⟨S1x1024x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c1_i32 : BitVec 32 := 1#32
  let c0_i32_0 : BitVec 32 := 0#32
  ![c4_i32.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .slt arg2 c3_i32
  let c10_i32 : BitVec 32 := 10#32
  let v1 : BitVec 32 := Scalar.select v0 arg2 c10_i32
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InprojCtxRefIdeal.lean ====
abbrev S4x256x2048 : Shape := ⟨3, ![4, 256, 2048]⟩
abbrev S8x6144 : Shape := ⟨2, ![8, 6144]⟩
abbrev S2048 : Shape := ⟨1, ![2048]⟩
abbrev S11264x2048 : Shape := ⟨2, ![11264, 2048]⟩
abbrev S1x1024x2048 : Shape := ⟨3, ![1, 1024, 2048]⟩
abbrev S1x2048 : Shape := ⟨2, ![1, 2048]⟩
abbrev S_ : Shape := ⟨0, ![]⟩
abbrev S1x1024 : Shape := ⟨2, ![1, 1024]⟩
abbrev S1x1024x1 : Shape := ⟨3, ![1, 1024, 1]⟩
abbrev S1x1x2048 : Shape := ⟨3, ![1, 1, 2048]⟩
abbrev S3072x2048 : Shape := ⟨2, ![3072, 2048]⟩
abbrev S1024x2048 : Shape := ⟨2, ![1024, 2048]⟩
abbrev S4096x2048 : Shape := ⟨2, ![4096, 2048]⟩
abbrev S2048x4096 : Shape := ⟨2, ![2048, 4096]⟩
abbrev S1x1024x4096 : Shape := ⟨3, ![1, 1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S8x6144, .f32⟩
  | .hbm, ⟨2, _⟩ => ⟨S2048, .f32⟩
  | .hbm, ⟨3, _⟩ => ⟨S11264x2048, .bf16⟩
  | .hbm, ⟨4, _⟩ => ⟨S1x1024x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x1024x2048, .f32⟩
  | .hbm, ⟨10, _⟩ => ⟨S_, .f32⟩
  | .hbm, ⟨11, _⟩ => ⟨S1x1024, .f32⟩
  | .hbm, ⟨12, _⟩ => ⟨S1x1024x1, .f32⟩
  | .hbm, ⟨13, _⟩ => ⟨S_, .f32⟩
  | .hbm, ⟨14, _⟩ => ⟨S1x1024x1, .f32⟩
  | .hbm, ⟨15, _⟩ => ⟨S1x1024x1, .f32⟩
  | .hbm, ⟨16, _⟩ => ⟨S_, .f32⟩
  | .hbm, ⟨17, _⟩ => ⟨S1x1024x1, .f32⟩
  | .hbm, ⟨18, _⟩ => ⟨S1x1024x1, .f32⟩
  | .hbm, ⟨19, _⟩ => ⟨S1x1024x1, .f32⟩
  | .hbm, ⟨20, _⟩ => ⟨S1x1024x2048, .f32⟩
  | .hbm, ⟨21, _⟩ => ⟨S1x1024x2048, .f32⟩
  | .hbm, ⟨22, _⟩ => ⟨S1x1x2048, .f32⟩
  | .hbm, ⟨23, _⟩ => ⟨S1x1024x2048, .f32⟩
  | .hbm, ⟨24, _⟩ => ⟨S1x1024x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S1x1024x2048, .f32⟩
  | .hbm, ⟨30, _⟩ => ⟨S1x1024x2048, .f32⟩
  | .hbm, ⟨31, _⟩ => ⟨S1x1x2048, .f32⟩
  | .hbm, ⟨32, _⟩ => ⟨S1x1024x2048, .f32⟩
  | .hbm, ⟨33, _⟩ => ⟨S1x1024x2048, .f32⟩
  | .hbm, ⟨34, _⟩ => ⟨S3072x2048, .bf16⟩
  | .hbm, ⟨35, _⟩ => ⟨S1024x2048, .bf16⟩
  | .hbm, ⟨36, _⟩ => ⟨S4096x2048, .bf16⟩
  | .hbm, ⟨37, _⟩ => ⟨S4096x2048, .f32⟩
  | .hbm, ⟨38, _⟩ => ⟨S2048x4096, .f32⟩
  | .hbm, ⟨39, _⟩ => ⟨S1x1024x4096, .f32⟩
  | .hbm, ⟨40, _⟩ => ⟨S1x1024x4096, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Mod.lean ====
abbrev S4x2048 : Shape := ⟨2, ![4, 2048]⟩
abbrev S2048 : Shape := ⟨1, ![2048]⟩
abbrev S2048x6144 : Shape := ⟨2, ![2048, 6144]⟩
abbrev S6144 : Shape := ⟨1, ![6144]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x6144 : Shape := ⟨2, ![1, 6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x6144, .f32⟩
  | .hbm, ⟨3, _⟩ => ⟨S6144, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S1x6144, .f32⟩
  | .hbm, ⟨9, _⟩ => ⟨S8x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x2048 : Shape := ⟨2, ![4, 2048]⟩
abbrev S2048 : Shape := ⟨1, ![2048]⟩
abbrev S2048x6144 : Shape := ⟨2, ![2048, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S3x6144 : Shape := ⟨2, ![3, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x6144, .f32⟩
  | .hbm, ⟨3, _⟩ => ⟨S6144, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S3x6144, .f32⟩
  | .hbm, ⟨30, _⟩ => ⟨S8x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proof.InprojValue.lean ====
module

public import proofs.«01_k».proof.Proof.Gen.InprojIdeal.Value
public import proofs.«01_k».proof.Proof.Gen.InprojRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojIdeal.Value
open Cert.InprojIdeal Cert.InprojIdeal.Gen
open Cert.InprojRefIdeal.Read

variable (m : (ℓ : Loc nD τ sig) → Buf (Elt Ideal) ℓ)

/-- The blocks each grid point reads and writes: batch `t / 8`, row tile `t / 4 % 2`, weight tile `t % 4`. -/
theorem idx : ∀ t : Fin cfg0.N, win0_0.index t = ![t.val / 8, t.val / 4 % 2, 0] ∧ win0_1.index t = ![t.val / 8, 0, 0]
    ∧ win0_2.index t = ![t.val / 8, 0, 1] ∧ win0_3.index t = ![0, 0] ∧ win0_4.index t = ![t.val % 4, 0]
    ∧ win0_5.index t = ![t.val / 8, t.val / 4 % 2, t.val % 4] :=
  (by decide +kernel : ∀ t : Fin grid0.N, _)

/-- The modulated, normalised activations of a block are the reference's, row by row. -/
theorem h_point (c : Dev nD) (t : Fin cfg0.N) (i : S1024x2048.Idx) (j : S4x2048x2048.Idx)
    (h0 : (j 0 : ℕ) = t.val / 8) (h1 : (j 1 : ℕ) = t.val / 4 % 2 * 1024 + i 0) (h2 : (j 2 : ℕ) = i 1) :
    k0_pay1 (F := Ideal) (iblk m c 0 t) (iblk m c 3 t) (iblk m c 2 t) (iblk m c 1 t) i
      = val_main_v22 (F := Ideal) (m ((c : Thread nD τ).loc main_arg0)) (m ((c : Thread nD τ).loc main_arg1))
          (m ((c : Thread nD τ).loc main_arg2)) j := by
  pointwise [k0_pay1, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2]
  rw [← mul_assoc]
  blk_point [iblk, V, idx t]

/-- What the carried scratch holds after each point: the reference's modulated activations of the point's row tile,
    stored at the first point of a run of four and kept over the other three. -/
theorem scratch (c : Dev nD) : ∀ (n : ℕ) (hn : n < cfg0.N) (i : S1024x2048.Idx) (j : S4x2048x2048.Idx)
    (h0 : (j 0 : ℕ) = n / 8) (h1 : (j 1 : ℕ) = n / 4 % 2 * 1024 + i 0) (h2 : (j 2 : ℕ) = i 1),
    (outsAt0 m c n hn).2 i
      = val_main_v22 (F := Ideal) (m ((c : Thread nD τ).loc main_arg0)) (m ((c : Thread nD τ).loc main_arg1))
          (m ((c : Thread nD τ).loc main_arg2)) j := by
  intro n
  induction n with
  | zero =>
    intro hn i j h0 h1 h2
    rw [outsAt0_A m c ⟨0, hn⟩ rfl]
    frame_out
    exact h_point m c ⟨0, hn⟩ i j h0 h1 h2
  | succ n ih =>
    intro hn i j h0 h1 h2
    by_cases h : (n + 1) % 4 = 0
    · rw [outsAt0_A m c ⟨n + 1, hn⟩ h]
      frame_out
      exact h_point m c ⟨n + 1, hn⟩ i j h0 h1 h2
    · rw [outsAt0_B m c ⟨n + 1, hn⟩ h]
      exact ih (Nat.lt_of_succ_lt hn) i j (by omega) (by omega) h2

/-- One block of the product, over any tile of activations that is the reference's. -/
theorem out_point (c : Dev nD) (t : Fin cfg0.N) (h : Vec Ideal S1024x2048 .bf16)
    (hh : ∀ (i : S1024x2048.Idx) (j : S4x2048x2048.Idx)
      (h0 : (j 0 : ℕ) = t.val / 8) (h1 : (j 1 : ℕ) = t.val / 4 % 2 * 1024 + i 0) (h2 : (j 2 : ℕ) = i 1),
      h i = val_main_v22 (F := Ideal) (m ((c : Thread nD τ).loc main_arg0)) (m ((c : Thread nD τ).loc main_arg1))
          (m ((c : Thread nD τ).loc main_arg2)) j)
    (y : S1x1024x2816.Idx) (z : S4x2048x11264.Idx)
    (h0 : (z 0 : ℕ) = t.val / 8) (h1 : (z 1 : ℕ) = t.val / 4 % 2 * 1024 + y 1) (h2 : (z 2 : ℕ) = t.val % 4 * 2816 + y 2) :
    k0_pay2 (F := Ideal) h (iblk m c 4 t) y
      = val_main_v26 (F := Ideal) (m ((c : Thread nD τ).loc main_arg0)) (m ((c : Thread nD τ).loc main_arg1))
          (m ((c : Thread nD τ).loc main_arg2)) (m ((c : Thread nD τ).loc main_arg3)) z := by
  pointwise [k0_pay2, val_main_v26, val_main_v25, val_main_v24, val_main_v23]
  refine Finset.sum_congr rfl fun k _ => ?_
  congr 1
  · exact hh _ _ h0 h1 rfl
  · blk_point [iblk, V, idx t]

/-- The projected array after the run is the reference's result. -/
theorem final (c : Dev nD) : (dats m 0 c).arrAt 5 (cfgs 0).N
    = val_main_v26 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 4 = 0
  · rw [outsAt0_A m c t h]
    frame_out
    refine out_point m c t _ (fun i j h0 h1 h2 => h_point m c t i j h0 h1 h2) _ _ ?_ ?_ ?_
    all_goals (blk_simp [idx t] <;> try omega)
  · rw [outsAt0_B m c t h]
    frame_out
    rw [show View.read (Elt Ideal) (View.whole cc0_scratch0) ((Memref.isWhole_whole cc0_scratch0).unread
      (outsAt0 m c (t.val - 1) (Nat.lt_of_le_of_lt (Nat.sub_le _ _) t.isLt)).2) = _ from Memref.IsWhole.read_unread _ _]
    refine out_point m c t _ (fun i j h0 h1 h2 => scratch m c _ _ i j (by omega) (by omega) h2) _ _ ?_ ?_ ?_
    all_goals (blk_simp [idx t] <;> try omega)

end Cert.InprojIdeal.Value
-- ==== Proof.MergePoint.lean ====
module

public import proofs.«01_k».proof.Proof.Gen.MergeIdeal.Value
public import proofs.«01_k».proof.Proof.Gen.MergeRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen
open Cert.MergeRefIdeal.Read

variable (m : (ℓ : Loc nD τ sig) → Buf (Elt Ideal) ℓ)

/-- The blocks each grid point reads and writes: batch `t / 4`, row tile `t % 4`. -/
theorem idx : ∀ t : Fin cfg0.N, win0_0.index t = ![t.val / 4, t.val % 4, 0] ∧ win0_1.index t = ![t.val / 4, t.val % 4, 0]
    ∧ win0_2.index t = ![t.val / 4, t.val % 4, 3] ∧ win0_3.index t = ![t.val / 4, t.val % 4, 0]
    ∧ win0_4.index t = ![t.val / 4, t.val % 4, 3] ∧ win0_5.index t = ![t.val / 4, t.val % 4, 4]
    ∧ win0_6.index t = ![t.val / 4, t.val % 4, 0] ∧ win0_7.index t = ![t.val / 4, 0, 2]
    ∧ win0_8.index t = ![0, 0] ∧ win0_9.index t = ![0, 0] ∧ win0_10.index t = ![0, 0] ∧ win0_11.index t = ![0, 0]
    ∧ win0_12.index t = ![t.val / 4, t.val % 4, 0] :=
  (by decide +kernel : ∀ t : Fin grid0.N, _)

/-- The gate tile of the first branch at a place of the array. -/
theorem X4_at (c : Dev nD) (t : Fin cfg0.N) (r : Fin 512) (k : Fin 2048) (j : S4x2048x11264.Idx)
    (h0 : (j 0 : ℕ) = t.val / 4) (h1 : (j 1 : ℕ) = t.val % 4 * 512 + r) (h2 : (j 2 : ℕ) = 6144 + k) :
    (X0_4 m c t : Vec Ideal S1x512x2048 .bf16) (ix3 0 r k) = m ((c : Thread nD τ).loc main_arg2) j := by
  unfold X0_4 Pipeline.Window.fill
  rw [dif_pos (moved0_4 t _)]
  blk_point [iblk, V, idx t]

/-- The gate tile of the second branch at a place of the array. -/
theorem X5_at (c : Dev nD) (t : Fin cfg0.N) (r : Fin 512) (k : Fin 2048) (j : S4x2048x11264.Idx)
    (h0 : (j 0 : ℕ) = t.val / 4) (h1 : (j 1 : ℕ) = t.val % 4 * 512 + r) (h2 : (j 2 : ℕ) = 8192 + k) :
    (X0_5 m c t : Vec Ideal S1x512x2048 .bf16) (ix3 0 r k) = m ((c : Thread nD τ).loc main_arg2) j := by
  unfold X0_5 Pipeline.Window.fill
  rw [dif_pos (moved0_5 t _)]
  blk_point [iblk, V, idx t]

/-- One block of the result, over any tile of gated state outputs that is the reference's. -/
theorem out_point (c : Dev nD) (t : Fin cfg0.N) (a : Vec Ideal S512x1024 .bf16)
    (ha : ∀ (i : S512x1024.Idx) (j : S4x2048x1024.Idx)
      (h0 : (j 0 : ℕ) = t.val / 4) (h1 : (j 1 : ℕ) = t.val % 4 * 512 + i 0) (h2 : (j 2 : ℕ) = i 1),
      a i = val_main_v28 (F := Ideal) (m ((c : Thread nD τ).loc main_arg0)) (m ((c : Thread nD τ).loc main_arg1))
          (m ((c : Thread nD τ).loc main_arg2)) (m ((c : Thread nD τ).loc main_arg6)) j)
    (y : S1x512x2048.Idx) (z : S4x2048x2048.Idx)
    (h0 : (z 0 : ℕ) = t.val / 4) (h1 : (z 1 : ℕ) = t.val % 4 * 512 + y 1) (h2 : (z 2 : ℕ) = y 2) :
    k0_pay1 (F := Ideal) (k0_pay18 (F := Ideal) a (iblk m c 9 t) (iblk m c 3 t) (iblk m c 10 t) (X0_4 m c t) (X0_5 m c t)
        (iblk m c 11 t) (iblk m c 6 t) (iblk m c 7 t)) y
      = val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) z := by
  pointwise [k0_pay1, k0_pay18, val_main_v50, val_main_v49, val_main_v48, val_main_v47, val_main_v46, val_main_v45,
      val_main_v44, val_main_v43, val_main_v42, val_main_v41, val_main_v40, val_main_v39, val_main_v38, val_main_v37,
      val_main_v36, val_main_v35, val_main_v34, val_main_v33, val_main_v32, val_main_v31, val_main_v30, val_main_v29,
      val_main_v8, val_main_v7, val_main_v6, val_main_v5, val_main_v4, val_main_v3, val_main_cst_2, val_main_cst_3,
      val_main_cst_4, val_main_cst_5, Ideal.logistic]
  refine Ideal.add_congr ?_ (Ideal.mul_congr ?_ (Finset.sum_congr rfl fun k _ =>
    Ideal.mul_congr (Ideal.add_congr (Ideal.mul_congr ?_ (Finset.sum_congr rfl fun n _ => Ideal.mul_congr ?_ ?_))
      (Ideal.mul_congr ?_ (Finset.sum_congr rfl fun n _ => Ideal.mul_congr ?_ ?_))) ?_))
  · blk_point [iblk, V, idx t]
  · blk_point [iblk, V, idx t]
  · exact congrArg (fun v => Ideal.div 1 (1 + Ideal.exp (-v))) (X4_at m c t (y 1) k _ h0 h1 rfl)
  · exact ha _ _ h0 h1 rfl
  · blk_point [iblk, V, idx t]
  · exact congrArg (fun v => Ideal.div 1 (1 + Ideal.exp (-v))) (X5_at m c t (y 1) k _ h0 h1 rfl)
  · blk_point [iblk, V, idx t]
  · blk_point [iblk, V, idx t]
  · blk_point [iblk, V, idx t]

end Cert.MergeIdeal.Value
-- ==== Proof.MergeValue.lean ====
module

public import proofs.«01_k».proof.Proof.MergePoint
public import proofs.«01_k».proof.Proof.Gen.MergeRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen
open Cert.MergeRefIdeal.Read

variable (m : (ℓ : Loc nD τ sig) → Buf (Elt Ideal) ℓ)

/-- The rectangle of the whole scratch places every index at itself. -/
theorem whole_idx (i : S512x1024.Idx) :
    (Rect.unit (s := S512x1024) ![0, 0] S512x1024.size inb_S512x1024_S512x1024_0_0).toLoadRect.idx i = i := by
  funext a
  apply Fin.ext
  show _ = _
  fin_cases a <;> simp [LoadRect.idx, Rect.toLoadRect, Rect.unit]

/-- The merged array after the run is the reference's result. -/
theorem final (c : Dev nD) : (dats m 0 c).arrAt 12 (cfgs 0).N
    = val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (dats m 0 c).arrAt_eq_of_covers 12 _ (by decide +kernel) fun t _ y => ?_
  blk_simp
  rw [after0_12]
  unfold Gen.outsAt0
  frame_out
  refine out_point m c t _ (fun i j h0 h1 h2 => ?_) _ _ ?_ ?_ ?_
  · rw [View.readCov_eq_canon']
    show View.canon _ _ = _
    rw [whole_idx]
    canon_tiles x h
    all_goals
      open_payloads
      pointwise [val_main_v28, val_main_v27, val_main_v26, val_main_call0_v5, val_main_call0_v4, val_main_call0_cst_0,
        val_main_call0_v3, val_main_call0_v2, val_main_call0_cst, val_main_call0_v1, val_main_call0_v0, val_main_v25,
        val_main_v24, val_main_v23, val_main_v22, val_main_v21, val_main_v20, val_main_v19, val_main_v18, val_main_cst_1,
        val_main_v17, val_main_v16, val_main_cst_0, val_main_v15, val_main_v14, val_main_cst, val_main_v13, val_main_v12,
        val_main_v11, val_main_v10, val_main_v9, val_main_v2, val_main_v1, val_main_v0, Ideal.logistic]
      blk_point [iblk, V, idx t]
  all_goals (blk_simp [idx t] <;> try omega)

end Cert.MergeIdeal.Value
-- ==== Proof.InprojCtxValue.lean ====
module

public import proofs.«01_k».proof.Proof.Gen.InprojCtxIdeal.Value
public import proofs.«01_k».proof.Proof.Gen.InprojCtxRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojCtxIdeal.Value
open Cert.InprojCtxIdeal Cert.InprojCtxIdeal.Gen
open Cert.InprojCtxRefIdeal.Read

variable (m : (ℓ : Loc nD τ sig) → Buf (Elt Ideal) ℓ)

/-- The blocks each of the four grid points reads and writes: all context rows, the context's adaLN row, and the weight
    tiles 0, 1, 2 and 10. -/
theorem idx : ∀ t : Fin cfg0.N, win0_0.index t = ![0, 0, 0] ∧ win0_1.index t = ![4, 0, 0]
    ∧ win0_2.index t = ![4, 0, 1] ∧ win0_3.index t = ![0, 0]
    ∧ win0_4.index t = ![if t.val < 3 then t.val else 10, 0]
    ∧ win0_5.index t = ![0, 0, t.val] :=
  (by decide +kernel : ∀ t : Fin grid0.N, _)

/-- The modulated, normalised context rows are the reference's. -/
theorem h_point (c : Dev nD) (t : Fin cfg0.N) (i : S1024x2048.Idx) (j : S1x1024x2048.Idx)
    (h1 : (j 1 : ℕ) = i 0) (h2 : (j 2 : ℕ) = i 1) :
    k0_pay1 (F := Ideal) (iblk m c 0 t) (iblk m c 3 t) (iblk m c 2 t) (iblk m c 1 t) i
      = val_main_v25 (F := Ideal) (m ((c : Thread nD τ).loc main_arg0)) (m ((c : Thread nD τ).loc main_arg1))
          (m ((c : Thread nD τ).loc main_arg2)) j := by
  pointwise [k0_pay1, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2]
  rw [← mul_assoc]
  blk_point [iblk, V, idx t]

/-- What the scratch holds after each point: the modulated rows, stored at the first point and kept. -/
theorem scratch (c : Dev nD) : ∀ (n : ℕ) (hn : n < cfg0.N) (i : S1024x2048.Idx) (j : S1x1024x2048.Idx)
    (h1 : (j 1 : ℕ) = i 0) (h2 : (j 2 : ℕ) = i 1),
    (outsAt0 m c n hn).2 i
      = val_main_v25 (F := Ideal) (m ((c : Thread nD τ).loc main_arg0)) (m ((c : Thread nD τ).loc main_arg1))
          (m ((c : Thread nD τ).loc main_arg2)) j := by
  intro n
  induction n with
  | zero =>
    intro hn i j h1 h2
    rw [outsAt0_A m c ⟨0, hn⟩ rfl]
    frame_out
    exact h_point m c ⟨0, hn⟩ i j h1 h2
  | succ n ih =>
    intro hn i j h1 h2
    have hlt : n + 1 < 4 := hn
    rw [outsAt0_B m c ⟨n + 1, hn⟩ (by show ¬ (n + 1) % 4 = 0; omega)]
    exact ih (Nat.lt_of_succ_lt hn) i j h1 h2

/-- One block of the product, over any rows that are the reference's. -/
theorem out_point (c : Dev nD) (t : Fin cfg0.N) (h : Vec Ideal S1024x2048 .bf16)
    (hh : ∀ (i : S1024x2048.Idx) (j : S1x1024x2048.Idx) (h1 : (j 1 : ℕ) = i 0) (h2 : (j 2 : ℕ) = i 1),
      h i = val_main_v25 (F := Ideal) (m ((c : Thread nD τ).loc main_arg0)) (m ((c : Thread nD τ).loc main_arg1))
          (m ((c : Thread nD τ).loc main_arg2)) j)
    (y : S1x1024x1024.Idx) (z : S1x1024x4096.Idx)
    (h1 : (z 1 : ℕ) = y 1) (h2 : (z 2 : ℕ) = t.val * 1024 + y 2) :
    k0_pay2 (F := Ideal) h (iblk m c 4 t) y
      = val_main_v32 (F := Ideal) (m ((c : Thread nD τ).loc main_arg0)) (m ((c : Thread nD τ).loc main_arg1))
          (m ((c : Thread nD τ).loc main_arg2)) (m ((c : Thread nD τ).loc main_arg3)) z := by
  have ht : t.val < 4 := t.isLt
  pointwise [k0_pay2, val_main_v32, val_main_v31, val_main_v30, val_main_v29, val_main_v28, val_main_v27, val_main_v26]
  refine Finset.sum_congr rfl fun k _ => ?_
  congr 1
  · exact hh _ _ h1 rfl
  · by_cases h3 : t.val < 3
    · blk_point [iblk, V, idx t]
      rw [if_pos h3, h2]
    · blk_point [iblk, V, idx t]
      rw [if_neg h3]
      omega

/-- The projected array after the run is the reference's result. -/
theorem final (c : Dev nD) : (dats m 0 c).arrAt 5 (cfgs 0).N
    = val_main_v32 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 4 = 0
  · rw [outsAt0_A m c t h]
    frame_out
    refine out_point m c t _ (fun i j h1 h2 => h_point m c t i j h1 h2) _ _ ?_ ?_
    all_goals (blk_simp [idx t] <;> try omega)
  · rw [outsAt0_B m c t h]
    frame_out
    rw [show View.read (Elt Ideal) (View.whole cc0_scratch0) ((Memref.isWhole_whole cc0_scratch0).unread
      (outsAt0 m c (t.val - 1) (Nat.lt_of_le_of_lt (Nat.sub_le _ _) t.isLt)).2) = _ from Memref.IsWhole.read_unread _ _]
    refine out_point m c t _ (fun i j h1 h2 => scratch m c _ _ i j h1 h2) _ _ ?_ ?_
    all_goals (blk_simp [idx t] <;> try omega)

end Cert.InprojCtxIdeal.Value
-- ==== Proof.SoftmaxRow.lean ====
module

public import Idealize.ShloMosaic.PureOps
public import Idealize.ShloMosaic.PureOps.Ideal
public import Mathlib.Data.EReal.Operations
public import Mathlib.Data.EReal.Inv
public import Mathlib.Algebra.BigOperators.Fin
public import Mathlib.Analysis.SpecialFunctions.Pow.Real

@[expose] public section

noncomputable section

open Idealize.ShloMosaic

/-!
One row of the softmax, over the extended reals: the kernel takes powers of two of scores that carry
the factor `1 / log 2`, and divides once at the end; the reference takes exponentials and divides
each weight. Both give the same mean of the values wherever the scores are real numbers.
-/

namespace SoftmaxRow

/-- Multiplying by a nonnegative real number goes into a finite sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
      rw [Finset.sum_insert ha, Finset.sum_insert ha, ← ih]
      exact EReal.right_distrib_of_nonneg_of_ne_top (EReal.coe_nonneg.mpr hc) (EReal.coe_ne_top c) _ _

/-- A finite sum of real numbers is a real number. -/
theorem sum_real {ι : Type} (s : Finset ι) (f : ι → EReal) (h : ∀ i, ∃ r : ℝ, f i = r) :
    ∃ r : ℝ, ∑ i ∈ s, f i = r := by
  classical
  choose g hg using h
  refine ⟨∑ i ∈ s, g i, ?_⟩
  rw [Finset.sum_congr rfl fun i _ => hg i]
  induction s using Finset.induction_on with
  | empty => simp
  | insert a s ha ih => rw [Finset.sum_insert ha, Finset.sum_insert ha, ih, EReal.coe_add]

/-- The same with the real numbers given. -/
theorem coe_sum' {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The running maximum from the bottom is the supremum. -/
theorem fold_max_eq_sup {ι : Type} (s : Finset ι) (f : ι → EReal) :
    Finset.fold max (⊥ : EReal) f s = s.sup f := rfl

/-- A positive real factor goes into a supremum. -/
theorem sup_mul_real {ι : Type} (s : Finset ι) (f : ι → EReal) (c : ℝ) (hc : 0 < c) :
    (s.sup f) * (c : EReal) = s.sup fun i => f i * (c : EReal) := by
  have hm : Monotone fun x : EReal => x * (c : EReal) := fun x y h =>
    mul_le_mul_of_nonneg_right h (EReal.coe_nonneg.mpr hc.le)
  exact Finset.comp_sup_eq_sup_comp_of_is_total (fun x : EReal => x * (c : EReal)) hm
    (EReal.bot_mul_coe_of_pos hc)

/-- A supremum over 2304 keys is the larger of the suprema over the last 2048 and the first 256. -/
theorem sup_split (f : Fin 2304 → EReal) :
    (Finset.univ.sup f) = max (Finset.univ.sup fun l : Fin 2048 => f ⟨256 + l.val, by omega⟩)
      (Finset.univ.sup fun l : Fin 256 => f ⟨l.val, by omega⟩) := by
  refine le_antisymm (Finset.sup_le fun j _ => ?_) (max_le ?_ ?_)
  · by_cases h : j.val < 256
    · exact le_max_of_le_right (Finset.le_sup (f := fun l : Fin 256 => f ⟨l.val, by omega⟩)
        (Finset.mem_univ (⟨j.val, h⟩ : Fin 256)))
    · have e : f j = f ⟨256 + (j.val - 256), by omega⟩ := congrArg f (Fin.ext (by simp; omega))
      rw [e]
      exact le_max_of_le_left (Finset.le_sup (f := fun l : Fin 2048 => f ⟨256 + l.val, by omega⟩)
        (Finset.mem_univ (⟨j.val - 256, by omega⟩ : Fin 2048)))
  · exact Finset.sup_le fun l _ => Finset.le_sup (f := f) (Finset.mem_univ _)
  · exact Finset.sup_le fun l _ => Finset.le_sup (f := f) (Finset.mem_univ _)

/-- A sum over 2304 keys is the sum over the first 256 and the sum over the last 2048. -/
theorem sum_split (f : Fin 2304 → EReal) :
    ∑ j, f j = (∑ l : Fin 256, f ⟨l.val, by omega⟩) + ∑ l : Fin 2048, f ⟨256 + l.val, by omega⟩ :=
  Fin.sum_univ_add (a := 256) (b := 2048) f

/-- The supremum of real scores is a real number. -/
theorem sup_real (r : Fin 2304 → ℝ) : ∃ t : ℝ, (Finset.univ.sup fun j => ((r j : ℝ) : EReal)) = t := by
  obtain ⟨j, _, hj⟩ := Finset.exists_mem_eq_sup (Finset.univ : Finset (Fin 2304)) ⟨0, Finset.mem_univ _⟩
    (fun j => ((r j : ℝ) : EReal))
  exact ⟨r j, hj⟩

/-- A power of two of a difference that carries the factor `1 / log 2` is the exponential. -/
theorem exp2_scaled (r t : ℝ) :
    Ideal.exp2 ((r : EReal) * (((Real.log 2)⁻¹ : ℝ) : EReal) - (t : EReal) * (((Real.log 2)⁻¹ : ℝ) : EReal))
      = ((Real.exp (r - t) : ℝ) : EReal) := by
  rw [← EReal.coe_mul, ← EReal.coe_mul, ← EReal.coe_sub]
  show ((Real.rpow 2 _ : ℝ) : EReal) = _
  congr 1
  refine (Real.rpow_def_of_pos (by norm_num) _).trans ?_
  have : Real.log 2 ≠ 0 := (Real.log_pos (by norm_num)).ne'
  congr 1
  field_simp

/-- The exponential of a difference of real numbers. -/
theorem exp_real (r t : ℝ) : Ideal.exp ((r : EReal) - (t : EReal)) = ((Real.exp (r - t) : ℝ) : EReal) := by
  rw [← EReal.coe_sub]; rfl

/-- Dividing by a positive real number multiplies by its inverse. -/
theorem div_pos_real (x : EReal) (l : ℝ) (hl : 0 < l) : Ideal.div x (l : EReal) = x * ((l⁻¹ : ℝ) : EReal) := by
  unfold Ideal.div
  rw [if_neg (by exact_mod_cast hl.ne'), EReal.coe_inv]

/-- One row: with the kernel's scores `S` (the last 2048 keys) and `C` (the first 256) the reference's
real scores times `1 / log 2`, the kernel's quotient of sums is the reference's mean of the values. -/
theorem row (R : Fin 2304 → EReal) (hR : ∀ j, ∃ r : ℝ, R j = r) (V : Fin 2304 → EReal)
    (S : Fin 2048 → EReal) (C : Fin 256 → EReal) (VS OS : Fin 2048 → EReal) (VC OC : Fin 256 → EReal)
    (hS : ∀ l : Fin 2048, S l = R ⟨256 + l.val, by omega⟩ * (((Real.log 2)⁻¹ : ℝ) : EReal))
    (hC : ∀ l : Fin 256, C l = R ⟨l.val, by omega⟩ * (((Real.log 2)⁻¹ : ℝ) : EReal))
    (hVS : ∀ l : Fin 2048, VS l = V ⟨256 + l.val, by omega⟩) (hVC : ∀ l : Fin 256, VC l = V ⟨l.val, by omega⟩)
    (hOS : ∀ l, OS l = 1) (hOC : ∀ l, OC l = 1) (M : EReal)
    (hM : M = max (Finset.fold max ⊥ S Finset.univ) (Finset.fold max ⊥ C Finset.univ)) :
    Ideal.div ((∑ l, Ideal.exp2 (S l - M) * VS l) + ∑ l, Ideal.exp2 (C l - M) * VC l)
        ((∑ l, Ideal.exp2 (S l - M) * OS l) + ∑ l, Ideal.exp2 (C l - M) * OC l)
      = (∑ l : Fin 256, V ⟨l.val, by omega⟩ * Ideal.div
            (Ideal.exp (R ⟨l.val, by omega⟩ - max ⊥ (Finset.fold max ⊥ R Finset.univ)))
            (∑ j, Ideal.exp (R j - max ⊥ (Finset.fold max ⊥ R Finset.univ))))
        + ∑ l : Fin 2048, V ⟨256 + l.val, by omega⟩ * Ideal.div
            (Ideal.exp (R ⟨256 + l.val, by omega⟩ - max ⊥ (Finset.fold max ⊥ R Finset.univ)))
            (∑ j, Ideal.exp (R j - max ⊥ (Finset.fold max ⊥ R Finset.univ))) := by
  have hb : (0 : ℝ) < (Real.log 2)⁻¹ := inv_pos.mpr (Real.log_pos (by norm_num))
  choose r hr using hR
  obtain rfl : R = fun j => ((r j : ℝ) : EReal) := funext hr
  obtain rfl := funext hS
  obtain rfl := funext hC
  obtain rfl := funext hVS
  obtain rfl := funext hVC
  obtain rfl := funext hOS
  obtain rfl := funext hOC
  obtain ⟨t, ht⟩ := sup_real r
  have hM' : M = (t : EReal) * (((Real.log 2)⁻¹ : ℝ) : EReal) := by
    rw [hM, fold_max_eq_sup, fold_max_eq_sup, ← ht, sup_mul_real _ _ _ hb, sup_split]
  rw [hM', fold_max_eq_sup, ht, max_eq_right bot_le]
  simp only [exp2_scaled, exp_real, mul_one]
  have hL : ∑ j, ((Real.exp (r j - t) : ℝ) : EReal) = ((∑ j, Real.exp (r j - t) : ℝ) : EReal) := coe_sum' _ _
  have hpos : (0 : ℝ) < ∑ j, Real.exp (r j - t) :=
    Finset.sum_pos (fun j _ => Real.exp_pos _) ⟨0, Finset.mem_univ _⟩
  have hK : (∑ l : Fin 2048, ((Real.exp (r ⟨256 + l.val, by omega⟩ - t) : ℝ) : EReal))
      + ∑ l : Fin 256, ((Real.exp (r ⟨l.val, by omega⟩ - t) : ℝ) : EReal)
      = ((∑ j, Real.exp (r j - t) : ℝ) : EReal) := by
    rw [← hL, sum_split, add_comm]
  rw [hK, hL, div_pos_real _ _ hpos]
  simp only [div_pos_real _ _ hpos]
  have hi : (0 : ℝ) ≤ (∑ j, Real.exp (r j - t))⁻¹ := (inv_pos.mpr hpos).le
  rw [EReal.right_distrib_of_nonneg_of_ne_top (EReal.coe_nonneg.mpr hi) (EReal.coe_ne_top _),
    sum_mul_real _ _ _ hi, sum_mul_real _ _ _ hi, add_comm]
  refine congrArg₂ (· + ·) (Finset.sum_congr rfl fun l _ => ?_) (Finset.sum_congr rfl fun l _ => ?_)
  · rw [mul_comm (((Real.exp _ : ℝ) : EReal)), mul_assoc]
  · rw [mul_comm (((Real.exp _ : ℝ) : EReal)), mul_assoc]

/-- One score: the query carries the factor `1 / √128 · 1 / log 2` in the kernel; the reference multiplies
the product of key and query by `1 / √128`. -/
theorem score (q k : Fin 128 → EReal) :
    ∑ x, q x * ((((Real.sqrt 128)⁻¹ * (Real.log 2)⁻¹ : ℝ)) : EReal) * k x
      = (∑ x, k x * q x) * ((((Real.sqrt 128)⁻¹ : ℝ)) : EReal) * (((Real.log 2)⁻¹ : ℝ) : EReal) := by
  have ha : (0 : ℝ) ≤ (Real.sqrt 128)⁻¹ := inv_nonneg.mpr (Real.sqrt_nonneg _)
  have hb : (0 : ℝ) ≤ (Real.log 2)⁻¹ := (inv_pos.mpr (Real.log_pos (by norm_num))).le
  rw [sum_mul_real _ _ _ ha, sum_mul_real _ _ _ hb]
  refine Finset.sum_congr rfl fun x _ => ?_
  rw [EReal.coe_mul, mul_comm (q x * _) (k x), ← mul_assoc, ← mul_assoc]

/-- The reciprocal root of 128. -/
theorem rsqrt_128 : Ideal.rsqrt ((128 : ℝ) : EReal) = (((Real.sqrt 128)⁻¹ : ℝ) : EReal) := by
  show (if (128 : ℝ) < 0 then (⊥ : EReal) else if (128 : ℝ) = 0 then ⊤ else (((Real.sqrt 128)⁻¹ : ℝ) : EReal)) = _
  rw [if_neg (by norm_num), if_neg (by norm_num)]

/-- The normalised query is real where the query and its weight are real: the mean square plus a positive
constant has a real reciprocal root. -/
theorem normed_real_of_real (q : Fin 128 → EReal) (hq : ∀ x, ∃ r : ℝ, q x = r) (w : EReal) (hw : ∃ r : ℝ, w = r)
    (c e : ℝ) (hc : 0 < c) (he : 0 < e) (d : Fin 128) :
    ∃ r : ℝ, q d * Ideal.rsqrt (Ideal.div (∑ x, q x * q x) (c : EReal) + (e : EReal)) * w = r := by
  choose p hp using hq
  obtain ⟨w', rfl⟩ := hw
  obtain rfl : q = fun j => ((p j : ℝ) : EReal) := funext hp
  simp only [← EReal.coe_mul]
  rw [coe_sum', div_pos_real _ _ hc, ← EReal.coe_mul, ← EReal.coe_add]
  have h : 0 < (∑ x, p x * p x) * c⁻¹ + e :=
    add_pos_of_nonneg_of_pos (mul_nonneg (Finset.sum_nonneg fun x _ => mul_self_nonneg _) (inv_pos.mpr hc).le) he
  have e : Ideal.rsqrt (((∑ x, p x * p x) * c⁻¹ + e : ℝ) : EReal)
      = (((Real.sqrt ((∑ x, p x * p x) * c⁻¹ + e))⁻¹ : ℝ) : EReal) := by
    show (if _ < (0 : ℝ) then (⊥ : EReal) else if _ = (0 : ℝ) then ⊤ else _) = _
    rw [if_neg h.le.not_gt, if_neg h.ne']
  rw [e, ← EReal.coe_mul, ← EReal.coe_mul]
  exact ⟨_, rfl⟩

/-- The squares of a row with an infinite entry sum to infinity. -/
theorem sum_sq_top (q : Fin 128 → EReal) (x : Fin 128) (h : q x * q x = ⊤) : ∑ x, q x * q x = ⊤ := by
  have hn : ∀ y : EReal, 0 ≤ y * y := by
    intro y
    induction y using EReal.rec with
    | bot => simp
    | top => simp
    | coe r => rw [← EReal.coe_mul]; exact EReal.coe_nonneg.mpr (mul_self_nonneg r)
  refine top_le_iff.mp (h ▸ ?_)
  exact Finset.single_le_sum (f := fun x => q x * q x) (fun y _ => hn (q y)) (Finset.mem_univ x)

/-- The normalised query is real where its weight is: a row of real queries has a real reciprocal root, and a row
with an infinite query has the reciprocal root 0. -/
theorem normed_real (q : Fin 128 → EReal) (w : EReal) (hw : ∃ r : ℝ, w = r)
    (c e : ℝ) (hc : 0 < c) (he : 0 < e) (d : Fin 128) :
    ∃ r : ℝ, q d * Ideal.rsqrt (Ideal.div (∑ x, q x * q x) (c : EReal) + (e : EReal)) * w = r := by
  by_cases hq : ∀ x, ∃ r : ℝ, q x = r
  · exact normed_real_of_real q hq w hw c e hc he d
  · obtain ⟨x, hx⟩ := not_forall.mp hq
    have h : q x * q x = ⊤ := by
      generalize q x = y at hx
      induction y using EReal.rec with
      | bot => simp
      | top => simp
      | coe r => exact absurd ⟨r, rfl⟩ hx
    have hr : Ideal.rsqrt (⊤ : EReal) = 0 := rfl
    rw [sum_sq_top q x h, div_pos_real _ _ hc, EReal.top_mul_coe_of_pos (inv_pos.mpr hc), EReal.top_add_coe, hr, mul_zero, zero_mul]
    exact ⟨0, EReal.coe_zero.symm⟩

/-- Products and sums of real numbers, kept real. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem sub_real {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

end SoftmaxRow

end
-- ==== Proof.AttnRef.lean ====
module

public import proofs.«01_k».proof.Proof.Gen.KernelIdeal.Value
public import proofs.«01_k».proof.Proof.Gen.ReferenceIdeal.Read
public import proofs.«01_k».proof.Proof.SoftmaxRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

section
variable (p : FVec Ideal S4x2048x11264 .bf16) (kn : FVec Ideal S4x2048x256 .bf16) (kc : FVec Ideal S4x256x256 .bf16)
  (v : FVec Ideal S4x2048x256 .bf16) (vc : FVec Ideal S4x256x256 .bf16) (w : FVec Ideal S128 .f32)

/-- The reference's row maximum over the 2304 keys. -/
theorem ref_max (i : Cert.ReferenceIdeal.S4x2x4x2048.Idx) :
    val_main_v72 (F := Ideal) p kn kc w i = Finset.fold max (Ideal.ofBits FTy.f32 4286578688#32)
      (fun x : Fin 2304 => val_main_v71 (F := Ideal) p kn kc w (ix5 (i 0) (i 1) (i 2) (i 3) x)) Finset.univ := by
  pointwise [val_main_v72, val_main_cst_6]

/-- The reference's exponential of a score less its row's maximum. -/
theorem ref_exp (i : Cert.ReferenceIdeal.S4x2x4x2048x2304.Idx) (j : Cert.ReferenceIdeal.S4x2x4x2048.Idx)
    (hj : idx_main_v75 (idx_main_v76 i) = j) :
    val_main_v78 (F := Ideal) p kn kc w i = Ideal.exp (val_main_v71 (F := Ideal) p kn kc w i
      - max (Ideal.ofBits FTy.f32 4286578688#32) (val_main_v72 (F := Ideal) p kn kc w j)) := by
  rw [val_main_v78_apply, val_main_v77_apply, val_main_v76_apply, val_main_v75_apply, val_main_v74_apply,
    val_main_v73_apply, val_main_cst_7_apply, hj]
  generalize val_main_v71 (F := Ideal) p kn kc w i = x
  generalize val_main_v72 (F := Ideal) p kn kc w j = y
  rfl

/-- The reference's weight: the exponential over the sum of its row's exponentials. -/
theorem ref_prob (i : Cert.ReferenceIdeal.S4x2x4x2048x2304.Idx) (j : Cert.ReferenceIdeal.S4x2x4x2048.Idx)
    (hj : idx_main_v80 (idx_main_v81 i) = j) :
    val_main_v82 (F := Ideal) p kn kc w i = Ideal.div (val_main_v78 (F := Ideal) p kn kc w i)
      (∑ x : Fin 2304, val_main_v78 (F := Ideal) p kn kc w (idx_main_v79 j x)) := by
  rw [val_main_v82_apply, val_main_v81_apply, val_main_v80_apply, val_main_v79_apply, val_main_cst_8_apply, hj]
  generalize val_main_v78 (F := Ideal) p kn kc w = x
  show Ideal.div _ (Ideal.ofBits .f32 0x00000000#32 + _) = _
  rw [Ideal.ofBits_zero_f32, zero_add]

/-- The constant the maximum starts from is the bottom. -/
theorem ofBits_neg_inf : Ideal.ofBits FTy.f32 4286578688#32 = ⊥ := by
  simp [Ideal.ofBits, Ideal.ieee]

/-- The constant 128. -/
theorem ofBits_128 : Ideal.ofBits FTy.f32 1124073472#32 = ((128 : ℝ) : EReal) := by
  simp [Ideal.ofBits, Ideal.ieee, -EReal.coe_mul]
  norm_num

/-- The small constant beside the mean square is a positive real number. -/
theorem ofBits_eps : ∃ e : ℝ, 0 < e ∧ Ideal.ofBits FTy.f32 897988541#32 = e := by
  simp only [Ideal.ofBits, Ideal.ieee]
  rw [if_neg (by decide), if_neg (by decide)]
  refine ⟨_, ?_, rfl⟩
  rw [if_neg (by decide)]
  positivity

/-- The base of the rotary frequencies is a real number. -/
theorem ofBits_base : ∃ e : ℝ, Ideal.ofBits FTy.f32 1176256512#32 = e := by
  simp only [Ideal.ofBits, Ideal.ieee]
  rw [if_neg (by decide), if_neg (by decide)]
  exact ⟨_, rfl⟩

/-- The number of frequencies is a positive real number. -/
theorem ofBits_32 : ∃ e : ℝ, 0 < e ∧ Ideal.ofBits FTy.f32 1107296256#32 = e := by
  simp only [Ideal.ofBits, Ideal.ieee]
  rw [if_neg (by decide), if_neg (by decide)]
  refine ⟨_, ?_, rfl⟩
  rw [if_neg (by decide)]
  positivity

/-- The reference's weights of one row, in the scores of that row. -/
theorem ref_row (b : Fin 4) (k : Fin 2) (g : Fin 4) (t : Fin 2048) (R : Fin 2304 → EReal)
    (hR : R = fun x => val_main_v71 (F := Ideal) p kn kc w (ix5 b k g t x)) (x : Fin 2304)
    (i : Cert.ReferenceIdeal.S4x2x4x2048x2304.Idx) (hi : i = ix5 b k g t x) :
    val_main_v82 (F := Ideal) p kn kc w i
      = Ideal.div (Ideal.exp (R x - max ⊥ (Finset.fold max ⊥ R Finset.univ)))
          (∑ y, Ideal.exp (R y - max ⊥ (Finset.fold max ⊥ R Finset.univ))) := by
  subst hi
  have hm : ∀ i, idx_main_v75 (idx_main_v76 (ix5 b k g t i)) = ix4 b k g t := fun i => by
    funext a; match a with
      | ⟨0, _⟩ => rfl
      | ⟨1, _⟩ => rfl
      | ⟨2, _⟩ => rfl
      | ⟨3, _⟩ => rfl
  have hs : idx_main_v80 (idx_main_v81 (ix5 b k g t x)) = ix4 b k g t := by
    funext a; match a with
      | ⟨0, _⟩ => rfl
      | ⟨1, _⟩ => rfl
      | ⟨2, _⟩ => rfl
      | ⟨3, _⟩ => rfl
  have hx : ∀ y, idx_main_v79 (ix4 b k g t) y = ix5 b k g t y := fun y => by
    funext a; match a with
      | ⟨0, _⟩ => rfl
      | ⟨1, _⟩ => rfl
      | ⟨2, _⟩ => rfl
      | ⟨3, _⟩ => rfl
      | ⟨4, _⟩ => rfl
  have hmax : val_main_v72 (F := Ideal) p kn kc w (ix4 b k g t) = Finset.fold max ⊥ R Finset.univ := by
    rw [ref_max, ofBits_neg_inf, hR]
    rfl
  have he : ∀ y, val_main_v78 (F := Ideal) p kn kc w (ix5 b k g t y)
      = Ideal.exp (R y - max ⊥ (Finset.fold max ⊥ R Finset.univ)) := fun y => by
    rw [ref_exp p kn kc w _ _ (hm y), ofBits_neg_inf, hmax, hR]
  rw [ref_prob p kn kc w _ _ hs, he]
  refine congrArg (Ideal.div _) (Finset.sum_congr rfl fun y _ => ?_)
  rw [hx, he]

/-- The reference's score: key times rotated query, times the reciprocal root of 128. -/
theorem ref_score (i : Cert.ReferenceIdeal.S4x2x4x2048x2304.Idx) :
    val_main_v71 (F := Ideal) p kn kc w i
      = (∑ x : Fin 128, (if h : (i 4).val < 256 then kc (ix3 (i 0) ⟨(i 4).val, h⟩ ⟨(i 1).val * 128 + x.val, by have := (i 1).isLt; have := x.isLt; simp at *; omega⟩)
          else kn (ix3 (i 0) ⟨(i 4).val - 256, by have := (i 4).isLt; simp at *; omega⟩ ⟨(i 1).val * 128 + x.val, by have := (i 1).isLt; have := x.isLt; simp at *; omega⟩))
          * val_main_v57 (F := Ideal) p w (ix4 (i 0) (i 3) ⟨(i 1).val * 4 + (i 2).val, by have := (i 1).isLt; have := (i 2).isLt; simp at *; omega⟩ x))
        * Ideal.rsqrt (Ideal.ofBits FTy.f32 1124073472#32) := by
  pointwise [val_main_v71, val_main_v70, val_main_v69, val_main_v68, val_main_v67, val_main_v66, val_main_v61, val_main_v60, val_main_v59, val_main_v58, val_main_cst_5]

/-- The reference's rotated query. -/
theorem ref_rope (i : Cert.ReferenceIdeal.S4x2048x8x128.Idx) :
    val_main_v57 (F := Ideal) p w i = if h : (i 3).val < 64 then
      val_main_v17 (F := Ideal) p w i * val_main_v41 (F := Ideal) (ix2 (i 1) ⟨(i 3).val, h⟩)
        - val_main_v17 (F := Ideal) p w (ix4 (i 0) (i 1) (i 2) ⟨64 + (i 3).val, by omega⟩) * val_main_v43 (F := Ideal) (ix2 (i 1) ⟨(i 3).val, h⟩)
    else
      val_main_v17 (F := Ideal) p w (ix4 (i 0) (i 1) (i 2) ⟨(i 3).val - 64, by have := (i 3).isLt; simp at *; omega⟩) * val_main_v43 (F := Ideal) (ix2 (i 1) ⟨(i 3).val - 64, by have := (i 3).isLt; simp at *; omega⟩)
        + val_main_v17 (F := Ideal) p w (ix4 (i 0) (i 1) (i 2) ⟨64 + ((i 3).val - 64), by have := (i 3).isLt; simp at *; omega⟩) * val_main_v41 (F := Ideal) (ix2 (i 1) ⟨(i 3).val - 64, by have := (i 3).isLt; simp at *; omega⟩) := by
  pointwise [val_main_v57, val_main_v56, val_main_v55, val_main_v54, val_main_v53, val_main_v52, val_main_v51, val_main_v50, val_main_v49, val_main_v48, val_main_v47, val_main_v46, val_main_v45, val_main_v44, val_main_v42]

/-- The reference's normalised query. -/
theorem ref_normed (i : Cert.ReferenceIdeal.S4x2048x8x128.Idx) :
    val_main_v17 (F := Ideal) p w i
      = p (ix3 (i 0) (i 1) ⟨4096 + ((i 2).val * 128 + (i 3).val), by have := (i 2).isLt; have := (i 3).isLt; simp at *; omega⟩)
        * Ideal.rsqrt (Ideal.div (∑ x : Fin 128,
            p (ix3 (i 0) (i 1) ⟨4096 + ((i 2).val * 128 + x.val), by have := (i 2).isLt; have := x.isLt; simp at *; omega⟩)
            * p (ix3 (i 0) (i 1) ⟨4096 + ((i 2).val * 128 + x.val), by have := (i 2).isLt; have := x.isLt; simp at *; omega⟩))
            (Ideal.ofBits FTy.f32 1124073472#32) + Ideal.ofBits FTy.f32 897988541#32)
        * w (ix1 (i 3)) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end

end Cert.KernelIdeal.Value

end
-- ==== Proof.AttnReads.lean ====
module

public import proofs.«01_k».proof.Proof.Gen.KernelIdeal.Value
public import proofs.«01_k».proof.Proof.Gen.ReferenceIdeal.Read
public import proofs.«01_k».proof.Proof.AttnRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

/-- The factor the kernel's query carries, by its exact value. -/
theorem q_scale_val : (Named.named (F := Ideal) (φ := .f32) Cert.KernelIdeal.κ "q_scale" (1040356334#32) : Ideal .f32)
    = ((((Real.sqrt 128)⁻¹ * (Real.log 2)⁻¹ : ℝ)) : EReal) :=
  IdealRules.named_const.ideal_named_scalar _ _ _ _ rfl

section reads
variable (q : Vec Ideal S1x512x128 .bf16) (w : Vec Ideal S1x128 .f32) (cs sn : Vec Ideal S512x128 .f32)
  (kl : Vec Ideal S1x2048x128 .bf16) (kc : Vec Ideal S1x256x128 .bf16)

/-- The kernel's rotated and scaled query. -/
theorem q_read (r : Fin 512) (d : Fin 128) : k0_pay2 (F := Ideal) q w cs sn (ix2 r d)
    = (q (ix3 0 r d) * Ideal.rsqrt (Ideal.div (∑ x : Fin 128, q (ix3 0 r x) * q (ix3 0 r x)) (Ideal.ofBits .f32 1124073472#32)
          + Ideal.ofBits .f32 897988541#32) * w (ix2 0 d) * cs (ix2 r d)
        + q (ix3 0 r ⟨(d.val + 128 - 64) % 128, by omega⟩) * Ideal.rsqrt (Ideal.div (∑ x : Fin 128, q (ix3 0 r x) * q (ix3 0 r x)) (Ideal.ofBits .f32 1124073472#32)
          + Ideal.ofBits .f32 897988541#32) * w (ix2 0 ⟨(d.val + 128 - 64) % 128, by omega⟩) * sn (ix2 r d))
      * Named.named (F := Ideal) (φ := .f32) Cert.KernelIdeal.κ "q_scale" (1040356334#32) := by
  pointwise [k0_pay2]

/-- The kernel's scores against the latent keys. -/
theorem s_read (r : Fin 512) (l : Fin 2048) : k0_pay3 (F := Ideal) q w cs sn kl (ix2 r l)
    = ∑ x : Fin 128, k0_pay2 (F := Ideal) q w cs sn (ix2 r x) * kl (ix3 0 l x) := by
  pointwise [k0_pay3]

/-- The kernel's scores against the context keys. -/
theorem sc_read (r : Fin 512) (l : Fin 256) : k0_pay4 (F := Ideal) q w cs sn kc (ix2 r l)
    = ∑ x : Fin 128, k0_pay2 (F := Ideal) q w cs sn (ix2 r x) * kc (ix3 0 l x) := by
  pointwise [k0_pay4]

/-- The kernel's row maximum over the latent keys. -/
theorem m_read (s : FVec Ideal S512x2048 .f32) (r : Fin 512) (j : S512x1.Idx) (hj : j 0 = r) : k0_pay8 (F := Ideal) s j
    = Finset.fold max (Ideal.ofBits .f32 4286578688#32) (fun l : Fin 2048 => s (ix2 r l)) Finset.univ := by
  subst hj
  pointwise [k0_pay8]

/-- The kernel's row: the quotient of the sums, times the gate. -/
theorem o_read (s : FVec Ideal S512x2048 .f32) (sc : FVec Ideal S512x256 .f32) (mx : FVec Ideal S512x1 .f32)
    (vl : Vec Ideal S1x2048x256 .bf16) (vc : Vec Ideal S1x256x256 .bf16) (z : Vec Ideal S1x512x128 .bf16)
    (r : Fin 512) (d : Fin 128) (M : EReal)
    (hM : M = max (mx (ix2 r 0)) (Finset.fold max (Ideal.ofBits .f32 4286578688#32) (fun l : Fin 256 => sc (ix2 r l)) Finset.univ)) :
    k0_pay9 (F := Ideal) s sc mx vl vc z (ix3 0 r d)
    = Ideal.div ((∑ l : Fin 2048, Ideal.exp2 (s (ix2 r l) - M) * vl (ix3 0 l ⟨d.val, by omega⟩))
          + ∑ l : Fin 256, Ideal.exp2 (sc (ix2 r l) - M) * vc (ix3 0 l ⟨d.val, by omega⟩))
        ((∑ l : Fin 2048, Ideal.exp2 (s (ix2 r l) - M) * vl (ix3 0 l ⟨128 + d.val, by omega⟩))
          + ∑ l : Fin 256, Ideal.exp2 (sc (ix2 r l) - M) * vc (ix3 0 l ⟨128 + d.val, by omega⟩))
      * (z (ix3 0 r d) * Ideal.div 1 (1 + Ideal.exp (-z (ix3 0 r d)))) := by
  subst hM
  pointwise [k0_pay9]
  try rfl
end reads

/-- Cosine and sine of a real number are real numbers. -/
theorem cos_real {x : EReal} (h : ∃ r : ℝ, x = r) : ∃ r : ℝ, Ideal.cos x = r := by
  obtain ⟨a, rfl⟩ := h; exact ⟨Real.cos a, rfl⟩
theorem sin_real {x : EReal} (h : ∃ r : ℝ, x = r) : ∃ r : ℝ, Ideal.sin x = r := by
  obtain ⟨a, rfl⟩ := h; exact ⟨Real.sin a, rfl⟩

/-- A power of the base with a real exponent is a real number. -/
theorem pow_real {x y : EReal} (hx : ∃ r : ℝ, x = r) (hy : ∃ r : ℝ, y = r) : ∃ r : ℝ, Ideal.pow x y = r := by
  obtain ⟨a, rfl⟩ := hx; obtain ⟨b, rfl⟩ := hy; exact ⟨Real.rpow a b, rfl⟩

/-- The rotation angles are real numbers. -/
theorem angle_real (i : Cert.ReferenceIdeal.S2048x64.Idx) : ∃ r : ℝ, val_main_v40 (F := Ideal) i = r := by
  obtain ⟨n, hn, en⟩ := ofBits_32
  have hp : ∀ x : EReal, (∃ r : ℝ, x = r) → ∃ r : ℝ,
      Ideal.pow (Ideal.ofBits FTy.f32 1176256512#32) (Ideal.div (-x) (Ideal.ofBits FTy.f32 1107296256#32)) = r := by
    intro x hx
    obtain ⟨a, rfl⟩ := hx
    refine pow_real ofBits_base ?_
    rw [en, SoftmaxRow.div_pos_real _ _ hn]
    exact ⟨-a * n⁻¹, by rw [EReal.coe_mul, EReal.coe_neg]⟩
  have e : val_main_v40 (F := Ideal) i = if h : (i 1).val < 32 then
        FloatOps.sitofp (F := Ideal) FTy.f32 (val_main_v19 (F := Ideal) (ix1 (i 0))) *
          Ideal.pow (Ideal.ofBits FTy.f32 1176256512#32)
            (Ideal.div (-FloatOps.sitofp (F := Ideal) FTy.f32 (BitVec.ofNat 32 (i 1).val)) (Ideal.ofBits FTy.f32 1107296256#32))
      else
        FloatOps.sitofp (F := Ideal) FTy.f32 (val_main_v22 (F := Ideal) (ix1 (i 0))) *
          Ideal.pow (Ideal.ofBits FTy.f32 1176256512#32)
            (Ideal.div (-FloatOps.sitofp (F := Ideal) FTy.f32 (BitVec.ofNat 32 ((i 1).val - 32))) (Ideal.ofBits FTy.f32 1107296256#32)) := by
    pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v20, val_main_cst_3, val_main_cst_4]
  rw [e]
  split_ifs
  · exact SoftmaxRow.mul_real ⟨_, rfl⟩ (hp _ ⟨_, rfl⟩)
  · exact SoftmaxRow.mul_real ⟨_, rfl⟩ (hp _ ⟨_, rfl⟩)

theorem c_real (i : Cert.ReferenceIdeal.S2048x64.Idx) : ∃ r : ℝ, val_main_v41 (F := Ideal) i = r := cos_real (angle_real i)
theorem s_real (i : Cert.ReferenceIdeal.S2048x64.Idx) : ∃ r : ℝ, val_main_v43 (F := Ideal) i = r := sin_real (angle_real i)

section row
variable (p : FVec Ideal S4x2048x11264 .bf16) (kn : FVec Ideal S4x2048x256 .bf16) (kc : FVec Ideal S4x256x256 .bf16)
  (v : FVec Ideal S4x2048x256 .bf16) (vc : FVec Ideal S4x256x256 .bf16) (w : FVec Ideal S128 .f32)

/-- The reference's normalised query is real where the weights are. -/
theorem normed_real (i : Cert.ReferenceIdeal.S4x2048x8x128.Idx)
    (hw : ∀ d, ∃ r : ℝ, w d = r) : ∃ r : ℝ, val_main_v17 (F := Ideal) p w i = r := by
  obtain ⟨e, he, ee⟩ := ofBits_eps
  rw [ref_normed, ofBits_128, ee]
  exact SoftmaxRow.normed_real (fun x => p (ix3 (i 0) (i 1) ⟨4096 + ((i 2).val * 128 + x.val), by have := (i 2).isLt; have := x.isLt; simp at *; omega⟩))
    _ (hw _) 128 e (by norm_num) he (i 3)

/-- So is its rotation. -/
theorem rope_real (i : Cert.ReferenceIdeal.S4x2048x8x128.Idx)
    (hw : ∀ d, ∃ r : ℝ, w d = r) : ∃ r : ℝ, val_main_v57 (F := Ideal) p w i = r := by
  rw [ref_rope]
  split_ifs
  · exact SoftmaxRow.sub_real (SoftmaxRow.mul_real (normed_real p w _ hw) (c_real _))
      (SoftmaxRow.mul_real (normed_real p w _ hw) (s_real _))
  · exact SoftmaxRow.add_real (SoftmaxRow.mul_real (normed_real p w _ hw) (s_real _))
      (SoftmaxRow.mul_real (normed_real p w _ hw) (c_real _))

/-- So are the scores, with real keys. -/
theorem score_real (i : Cert.ReferenceIdeal.S4x2x4x2048x2304.Idx)
    (hw : ∀ d, ∃ r : ℝ, w d = r) (hkn : ∀ j, ∃ r : ℝ, kn j = r) (hkc : ∀ j, ∃ r : ℝ, kc j = r) :
    ∃ r : ℝ, val_main_v71 (F := Ideal) p kn kc w i = r := by
  rw [ref_score, ofBits_128, SoftmaxRow.rsqrt_128]
  refine SoftmaxRow.mul_real (SoftmaxRow.sum_real _ _ fun x => SoftmaxRow.mul_real ?_ (rope_real p w _ hw)) ⟨_, rfl⟩
  split_ifs
  · exact hkc _
  · exact hkn _

/-- The reference's result: the weighted mean of the values, times the gate. -/
theorem ref_out (i : S4x2048x1024.Idx) : val_main_v88 (F := Ideal) p kn kc v vc w i
    = (∑ x : Fin 256, vc (ix3 (i 0) x ⟨(i 2).val / 512 * 128 + (i 2).val % 128, by have := (i 2).isLt; simp at *; omega⟩)
          * val_main_v82 (F := Ideal) p kn kc w (ix5 (i 0) ⟨(i 2).val / 512, by have := (i 2).isLt; simp at *; omega⟩ ⟨(i 2).val / 128 % 4, by omega⟩ (i 1) ⟨x.val, by omega⟩)
        + ∑ x : Fin 2048, v (ix3 (i 0) x ⟨(i 2).val / 512 * 128 + (i 2).val % 128, by have := (i 2).isLt; simp at *; omega⟩)
          * val_main_v82 (F := Ideal) p kn kc w (ix5 (i 0) ⟨(i 2).val / 512, by have := (i 2).isLt; simp at *; omega⟩ ⟨(i 2).val / 128 % 4, by omega⟩ (i 1) ⟨256 + x.val, by omega⟩))
      * (p (ix3 (i 0) (i 1) ⟨5120 + (i 2).val, by have := (i 2).isLt; simp at *; omega⟩)
        * Ideal.div 1 (1 + Ideal.exp (-p (ix3 (i 0) (i 1) ⟨5120 + (i 2).val, by have := (i 2).isLt; simp at *; omega⟩)))) := by
  pointwise [val_main_v88, val_main_v87, val_main_v86, val_main_v85, val_main_v84, val_main_v83, val_main_v65, val_main_v64, val_main_v63, val_main_v62, val_main_v4, val_main_v3, val_main_call2_v5, val_main_call2_v4, val_main_call2_v3, val_main_call2_v2,val_main_call2_v1,val_main_call2_v0,val_main_call2_cst,val_main_call2_cst_0]
end row

end Cert.KernelIdeal.Value

end
-- ==== Proof.AttnHead.lean ====
module

public import proofs.«01_k».proof.Proof.Gen.KernelIdeal.Value
public import proofs.«01_k».proof.Proof.Gen.ReferenceIdeal.Read
public import proofs.«01_k».proof.Proof.AttnReads
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

section head
variable (p : FVec Ideal S4x2048x11264 .bf16) (kn : FVec Ideal S4x2048x256 .bf16) (kc : FVec Ideal S4x256x256 .bf16)
  (v : FVec Ideal S4x2048x256 .bf16) (vc : FVec Ideal S4x256x256 .bf16) (w : FVec Ideal S128 .f32)
  (q z : Vec Ideal S1x512x128 .bf16) (wr : Vec Ideal S1x128 .f32) (cs sn : Vec Ideal S512x128 .f32)
  (kl : Vec Ideal S1x2048x128 .bf16) (kk : Vec Ideal S1x256x128 .bf16)
  (vl : Vec Ideal S1x2048x256 .bf16) (vk : Vec Ideal S1x256x256 .bf16)
  (b : Fin 4) (t : Fin 2048) (h : Fin 8) (r : Fin 512)

/-- The kernel's query of one head and row is the reference's rotated query, times the named factor. -/
theorem q_point
    (hq : ∀ d : Fin 128, q (ix3 0 r d) = p (ix3 b t ⟨4096 + (h.val * 128 + d.val), by omega⟩))
    (hw : ∀ d : Fin 128, wr (ix2 0 d) = w (ix1 d))
    (hc : ∀ d : Fin 128, cs (ix2 r d) = if e : d.val < 64 then val_main_v41 (F := Ideal) (ix2 t ⟨d.val, e⟩)
      else val_main_v41 (F := Ideal) (ix2 t ⟨d.val - 64, by omega⟩))
    (hs : ∀ d : Fin 128, sn (ix2 r d) = if e : d.val < 64 then -val_main_v43 (F := Ideal) (ix2 t ⟨d.val, e⟩)
      else val_main_v43 (F := Ideal) (ix2 t ⟨d.val - 64, by omega⟩)) (d : Fin 128) :
    k0_pay2 (F := Ideal) q wr cs sn (ix2 r d) = val_main_v57 (F := Ideal) p w (ix4 b t h d)
      * ((((Real.sqrt 128)⁻¹ * (Real.log 2)⁻¹ : ℝ)) : EReal) := by
  have hn : ∀ x : Fin 128, q (ix3 0 r x) * Ideal.rsqrt (Ideal.div (∑ x : Fin 128, q (ix3 0 r x) * q (ix3 0 r x)) (Ideal.ofBits .f32 1124073472#32)
      + Ideal.ofBits .f32 897988541#32) * wr (ix2 0 x) = val_main_v17 (F := Ideal) p w (ix4 b t h x) := by
    intro x
    rw [ref_normed]
    simp only [hq, hw]
    rfl
  rw [q_read, q_scale_val]
  refine congrArg (· * _) ?_
  rw [hn, hn, hc, hs, ref_rope]
  by_cases e : d.val < 64
  · rw [dif_pos e, dif_pos e, dif_pos (show ((ix4 b t h d : Cert.ReferenceIdeal.S4x2048x8x128.Idx) 3).val < 64 from e), mul_neg, ← sub_eq_add_neg]
    have e2 : (⟨(d.val + 128 - 64) % 128, by omega⟩ : Fin 128) = ⟨64 + d.val, by omega⟩ := Fin.ext (by show (d.val + 128 - 64) % 128 = 64 + d.val; omega)
    rw [e2]
    rfl
  · rw [dif_neg e, dif_neg e, dif_neg (show ¬((ix4 b t h d : Cert.ReferenceIdeal.S4x2048x8x128.Idx) 3).val < 64 from e), add_comm]
    have e2 : (⟨(d.val + 128 - 64) % 128, by omega⟩ : Fin 128) = ⟨d.val - 64, by omega⟩ := Fin.ext (by show (d.val + 128 - 64) % 128 = d.val - 64; omega)
    have e3 : (⟨64 + (d.val - 64), by omega⟩ : Fin 128) = d := Fin.ext (by show 64 + (d.val - 64) = d.val; omega)
    rw [e2]
    refine congrArg₂ (fun x y : EReal => x + y) rfl ?_
    show val_main_v17 (F := Ideal) p w (ix4 b t h d) * _ = val_main_v17 (F := Ideal) p w (ix4 b t h ⟨64 + (d.val - 64), _⟩) * _
    rw [e3]
    rfl

/-- One head and row of the kernel is that of the reference, where the scores are real. -/
theorem head_point (kv : Fin 2) (g : Fin 4) (hh : h.val = kv.val * 4 + g.val)
    (hq : ∀ d : Fin 128, q (ix3 0 r d) = p (ix3 b t ⟨4096 + (h.val * 128 + d.val), by omega⟩))
    (hw : ∀ d : Fin 128, wr (ix2 0 d) = w (ix1 d))
    (hc : ∀ d : Fin 128, cs (ix2 r d) = if e : d.val < 64 then val_main_v41 (F := Ideal) (ix2 t ⟨d.val, e⟩)
      else val_main_v41 (F := Ideal) (ix2 t ⟨d.val - 64, by omega⟩))
    (hs : ∀ d : Fin 128, sn (ix2 r d) = if e : d.val < 64 then -val_main_v43 (F := Ideal) (ix2 t ⟨d.val, e⟩)
      else val_main_v43 (F := Ideal) (ix2 t ⟨d.val - 64, by omega⟩))
    (hkl : ∀ (l : Fin 2048) (x : Fin 128), kl (ix3 0 l x) = kn (ix3 b l ⟨kv.val * 128 + x.val, by omega⟩))
    (hkk : ∀ (l : Fin 256) (x : Fin 128), kk (ix3 0 l x) = kc (ix3 b l ⟨kv.val * 128 + x.val, by omega⟩))
    (hvl : ∀ (l : Fin 2048) (x : Fin 256), vl (ix3 0 l x) = if e : x.val < 128 then v (ix3 b l ⟨kv.val * 128 + x.val, by omega⟩) else 1)
    (hvk : ∀ (l : Fin 256) (x : Fin 256), vk (ix3 0 l x) = if e : x.val < 128 then vc (ix3 b l ⟨kv.val * 128 + x.val, by omega⟩) else 1)
    (hz : ∀ d : Fin 128, z (ix3 0 r d) = p (ix3 b t ⟨5120 + (h.val * 128 + d.val), by omega⟩))
    (fw : ∀ d, ∃ r : ℝ, w d = r) (fn : ∀ j, ∃ r : ℝ, kn j = r) (fc : ∀ j, ∃ r : ℝ, kc j = r) (d : Fin 128)
    (j : S4x2048x1024.Idx) (hj : j = ix3 b t ⟨h.val * 128 + d.val, by omega⟩) :
    k0_pay9 (F := Ideal) (k0_pay3 q wr cs sn kl) (k0_pay4 q wr cs sn kk) (k0_pay8 (k0_pay3 q wr cs sn kl)) vl vk z (ix3 0 r d)
      = val_main_v88 (F := Ideal) p kn kc v vc w j := by
  subst hj
  have hQ := q_point p w q wr cs sn b t h r hq hw hc hs
  let R : Fin 2304 → EReal := fun x => val_main_v71 (F := Ideal) p kn kc w (ix5 b kv g t x)
  have hR : R = fun x => val_main_v71 (F := Ideal) p kn kc w (ix5 b kv g t x) := rfl
  have hh' : (⟨kv.val * 4 + g.val, by omega⟩ : Fin 8) = h := Fin.ext hh.symm
  have hS : ∀ l : Fin 2048, k0_pay3 (F := Ideal) q wr cs sn kl (ix2 r l) = R ⟨256 + l.val, by omega⟩ * (((Real.log 2)⁻¹ : ℝ) : EReal) := by
    intro l
    rw [s_read]
    simp only [hQ, hkl]
    rw [SoftmaxRow.score]
    refine congrArg (· * _) ?_
    show _ = val_main_v71 (F := Ideal) p kn kc w (ix5 b kv g t ⟨256 + l.val, by omega⟩)
    rw [ref_score, ofBits_128, SoftmaxRow.rsqrt_128]
    refine congrArg (· * _) (Finset.sum_congr rfl fun x _ => ?_)
    have e2 : (⟨256 + l.val - 256, by omega⟩ : Fin 2048) = l := Fin.ext (by show 256 + l.val - 256 = l.val; omega)
    refine congrArg₂ (· * ·) ?_ (congrArg (fun y => val_main_v57 (F := Ideal) p w (ix4 b t y x)) hh'.symm)
    refine Eq.trans ?_ (dif_neg (show ¬(256 + l.val < 256) by omega)).symm
    exact congrArg (fun y => kn (ix3 b y ⟨kv.val * 128 + x.val, by omega⟩)) e2.symm
  have hC : ∀ l : Fin 256, k0_pay4 (F := Ideal) q wr cs sn kk (ix2 r l) = R ⟨l.val, by omega⟩ * (((Real.log 2)⁻¹ : ℝ) : EReal) := by
    intro l
    rw [sc_read]
    simp only [hQ, hkk]
    rw [SoftmaxRow.score]
    refine congrArg (· * _) ?_
    show _ = val_main_v71 (F := Ideal) p kn kc w (ix5 b kv g t ⟨l.val, by omega⟩)
    rw [ref_score, ofBits_128, SoftmaxRow.rsqrt_128]
    refine congrArg (· * _) (Finset.sum_congr rfl fun x _ => ?_)
    refine congrArg₂ (· * ·) ?_ (congrArg (fun y => val_main_v57 (F := Ideal) p w (ix4 b t y x)) hh'.symm)
    refine Eq.trans ?_ (dif_pos (show l.val < 256 by omega)).symm
    rfl
  have hreal : ∀ x, ∃ s : ℝ, R x = s := fun x => score_real p kn kc w (ix5 b kv g t x) fw fn fc
  let W : Fin 2304 → EReal := fun x => if e : x.val < 256 then vc (ix3 b ⟨x.val, e⟩ ⟨kv.val * 128 + d.val, by omega⟩)
    else v (ix3 b ⟨x.val - 256, by omega⟩ ⟨kv.val * 128 + d.val, by omega⟩)
  have hWl : ∀ l : Fin 2048, W ⟨256 + l.val, by omega⟩ = v (ix3 b l ⟨kv.val * 128 + d.val, by omega⟩) := by
    intro l
    have e2 : (⟨256 + l.val - 256, by omega⟩ : Fin 2048) = l := Fin.ext (by show 256 + l.val - 256 = l.val; omega)
    show (if e : 256 + l.val < 256 then _ else _) = _
    rw [dif_neg (by omega), e2]
  have hWc : ∀ l : Fin 256, W ⟨l.val, by omega⟩ = vc (ix3 b l ⟨kv.val * 128 + d.val, by omega⟩) := by
    intro l
    show (if e : l.val < 256 then _ else _) = _
    rw [dif_pos l.isLt]
  rw [o_read _ _ _ _ _ _ r d _ rfl, m_read _ r _ rfl, ofBits_neg_inf, ref_out]
  refine congrArg₂ (· * ·) ?_ ?_
  · rw [SoftmaxRow.row R hreal W _ _ (fun l => vl (ix3 0 l ⟨d.val, by omega⟩)) (fun l => vl (ix3 0 l ⟨128 + d.val, by omega⟩))
      (fun l => vk (ix3 0 l ⟨d.val, by omega⟩)) (fun l => vk (ix3 0 l ⟨128 + d.val, by omega⟩)) hS hC
      (fun l => by rw [hWl, hvl, dif_pos d.isLt]) (fun l => by rw [hWc, hvk, dif_pos d.isLt])
      (fun l => by rw [hvl, dif_neg (show ¬(128 + d.val < 128) by omega)])
      (fun l => by rw [hvk, dif_neg (show ¬(128 + d.val < 128) by omega)]) _ rfl]
    have c1 : ∀ hb, (⟨(h.val * 128 + d.val) / 512 * 128 + (h.val * 128 + d.val) % 128, hb⟩ : Fin 256) = ⟨kv.val * 128 + d.val, by omega⟩ :=
      fun hb => Fin.ext (by show (h.val * 128 + d.val) / 512 * 128 + (h.val * 128 + d.val) % 128 = kv.val * 128 + d.val; omega)
    have c2 : ∀ hb, (⟨(h.val * 128 + d.val) / 512, hb⟩ : Fin 2) = kv := fun hb => Fin.ext (by show (h.val * 128 + d.val) / 512 = kv.val; omega)
    have c3 : ∀ hb, (⟨(h.val * 128 + d.val) / 128 % 4, hb⟩ : Fin 4) = g := fun hb => Fin.ext (by show (h.val * 128 + d.val) / 128 % 4 = g.val; omega)
    refine congrArg₂ (· + ·) (Finset.sum_congr rfl fun l _ => ?_) (Finset.sum_congr rfl fun l _ => ?_)
    · rw [hWc]
      refine congrArg₂ (· * ·) ?_ ?_
      · exact congrArg (fun y => vc (ix3 b l y)) (c1 _).symm
      · refine (ref_row p kn kc w b kv g t R hR ⟨l.val, by omega⟩ _ ?_).symm
        exact congrArg₂ (fun x y => ix5 b x y t ⟨l.val, by omega⟩) (c2 _) (c3 _)
    · rw [hWl]
      refine congrArg₂ (· * ·) ?_ ?_
      · exact congrArg (fun y => v (ix3 b l y)) (c1 _).symm
      · refine (ref_row p kn kc w b kv g t R hR ⟨256 + l.val, by omega⟩ _ ?_).symm
        exact congrArg₂ (fun x y => ix5 b x y t ⟨256 + l.val, by omega⟩) (c2 _) (c3 _)
  · rw [hz]
    rfl
end head

end Cert.KernelIdeal.Value

end
-- ==== Proof.AttnTables.lean ====
module

public import proofs.«01_k».proof.Proof.Gen.KernelIdeal.Value
public import proofs.«01_k».proof.Proof.Gen.ReferenceIdeal.Read

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

variable (m : (ℓ : Loc nD τ sig) → Buf (Elt Ideal) ℓ)

/-- The table of cosines the kernel is given: the reference's cosines twice, side by side. -/
theorem table_cos (c : Dev nD) : (V m c main_v24 : S2048x128.Idx → EReal)
    = concatenate S2048x128 1 [⟨S2048x64, val_main_v41 (F := Ideal)⟩, ⟨S2048x64, val_main_v41 (F := Ideal)⟩]
        concatenates_S2048x64_S2048x64_S2048x128_d1 := by
  unfold V
  simp only [hostOps0, hostOps0_1, hostOps0_2, hostOps0_3, hostOps0_4, List.flatten_cons, List.flatten_nil,
    List.append_nil, List.cons_append, List.nil_append]
  after_results
  rfl

/-- The table of signed sines: the reference's sines negated, then the sines. -/
theorem table_sin (c : Dev nD) : (V m c main_v26 : S2048x128.Idx → EReal)
    = concatenate S2048x128 1 [⟨S2048x64, (Host.negf (F := Ideal) (s := S2048x64) (φ := .f32) (val_main_v43 (F := Ideal)) : S2048x64.Idx → EReal)⟩, ⟨S2048x64, val_main_v43 (F := Ideal)⟩]
        concatenates_S2048x64_S2048x64_S2048x128_d1 := by
  unfold V
  simp only [hostOps0, hostOps0_1, hostOps0_2, hostOps0_3, hostOps0_4, List.flatten_cons, List.flatten_nil,
    List.append_nil, List.cons_append, List.nil_append]
  after_results
  rfl

/-- The latent values of both heads, each head's followed by 128 ones. -/
theorem table_vals (c : Dev nD) : (V m c main_v30 : S4x2048x512.Idx → EReal)
    = shapeCast S4x2048x512 (concatenate S4x2048x2x256 3
        [⟨S4x2048x2x128, shapeCast S4x2048x2x128 (m ((c.tc : Thread nD τ).loc main_arg3)) shapeCasts_S4x2048x256_S4x2048x2x128⟩,
         ⟨S4x2048x2x128, broadcastInDim S4x2048x2x128 ![] bcast_S_S4x2048x2x128 (constant (F := Ideal) S_ .bf16 0x3F80#16)⟩]
        concatenates_S4x2048x2x128_S4x2048x2x128_S4x2048x2x256_d3) shapeCasts_S4x2048x2x256_S4x2048x512 := by
  unfold V
  simp only [hostOps0, hostOps0_1, hostOps0_2, hostOps0_3, hostOps0_4, List.flatten_cons, List.flatten_nil,
    List.append_nil, List.cons_append, List.nil_append]
  after_results
  rfl

/-- The context values of both heads, each head's followed by 128 ones. -/
theorem table_vals_ctx (c : Dev nD) : (V m c main_v34 : S4x256x512.Idx → EReal)
    = shapeCast S4x256x512 (concatenate S4x256x2x256 3
        [⟨S4x256x2x128, shapeCast S4x256x2x128 (m ((c.tc : Thread nD τ).loc main_arg4)) shapeCasts_S4x256x256_S4x256x2x128⟩,
         ⟨S4x256x2x128, broadcastInDim S4x256x2x128 ![] bcast_S_S4x256x2x128 (constant (F := Ideal) S_ .bf16 0x3F80#16)⟩]
        concatenates_S4x256x2x128_S4x256x2x128_S4x256x2x256_d3) shapeCasts_S4x256x2x256_S4x256x512 := by
  unfold V
  simp only [hostOps0, hostOps0_1, hostOps0_2, hostOps0_3, hostOps0_4, List.flatten_cons, List.flatten_nil,
    List.append_nil, List.cons_append, List.nil_append]
  after_results
  rfl

/-- The row of norm weights. -/
theorem table_weight (c : Dev nD) : (V m c main_v35 : S1x128.Idx → EReal)
    = broadcastInDim S1x128 ![1] bcast_S128_S1x128_1 (m ((c.tc : Thread nD τ).loc main_arg5)) := by
  unfold V
  simp only [hostOps0, hostOps0_1, hostOps0_2, hostOps0_3, hostOps0_4, List.flatten_cons, List.flatten_nil,
    List.append_nil, List.cons_append, List.nil_append]
  after_results

/-- An entry of the table of cosines. -/
theorem cos_entry (c : Dev nD) (i : S2048x128.Idx) : (V m c main_v24 : S2048x128.Idx → EReal) i
    = if h : (i 1).val < 64 then val_main_v41 (F := Ideal) (ix2 (i 0) ⟨(i 1).val, h⟩)
      else val_main_v41 (F := Ideal) (ix2 (i 0) ⟨(i 1).val - 64, by have := (i 1).isLt; simp at *; omega⟩) := by
  rw [table_cos]; pointwise

/-- An entry of the table of signed sines. -/
theorem sin_entry (c : Dev nD) (i : S2048x128.Idx) : (V m c main_v26 : S2048x128.Idx → EReal) i
    = if h : (i 1).val < 64 then -val_main_v43 (F := Ideal) (ix2 (i 0) ⟨(i 1).val, h⟩)
      else val_main_v43 (F := Ideal) (ix2 (i 0) ⟨(i 1).val - 64, by have := (i 1).isLt; simp at *; omega⟩) := by
  rw [table_sin]; pointwise

/-- An entry of the latent values with ones. -/
theorem val_entry (c : Dev nD) (i : S4x2048x512.Idx) : (V m c main_v30 : S4x2048x512.Idx → EReal) i
    = if h : (i 2).val % 256 < 128 then m ((c.tc : Thread nD τ).loc main_arg3)
        (ix3 (i 0) (i 1) ⟨(i 2).val / 256 * 128 + (i 2).val % 256, by have := (i 2).isLt; simp at *; omega⟩) else (1 : EReal) := by
  rw [table_vals]; pointwise

/-- An entry of the context values with ones. -/
theorem val_ctx_entry (c : Dev nD) (i : S4x256x512.Idx) : (V m c main_v34 : S4x256x512.Idx → EReal) i
    = if h : (i 2).val % 256 < 128 then m ((c.tc : Thread nD τ).loc main_arg4)
        (ix3 (i 0) (i 1) ⟨(i 2).val / 256 * 128 + (i 2).val % 256, by have := (i 2).isLt; simp at *; omega⟩) else (1 : EReal) := by
  rw [table_vals_ctx]; pointwise

/-- An entry of the row of norm weights. -/
theorem weight_entry (c : Dev nD) (i : S1x128.Idx) : (V m c main_v35 : S1x128.Idx → EReal) i
    = m ((c.tc : Thread nD τ).loc main_arg5) (ix1 (i 1)) := by
  rw [table_weight]; pointwise

end Cert.KernelIdeal.Value

end
-- ==== Proof.AttnBlocks.lean ====
module

public import proofs.«01_k».proof.Proof.Gen.KernelIdeal.Value
public import proofs.«01_k».proof.Proof.Gen.ReferenceIdeal.Read
public import proofs.«01_k».proof.Proof.AttnTables
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

variable (m : (ℓ : Loc nD τ sig) → Buf (Elt Ideal) ℓ)

/-- The blocks a grid point reads and writes: its batch's keys and values, its 512 rows of queries, gate and tables. -/
theorem idx : ∀ t : Fin cfg0.N, win0_0.index t = ![t.val / 4, t.val % 4, 4] ∧ win0_1.index t = ![t.val / 4, t.val % 4, 5]
    ∧ win0_2.index t = ![t.val / 4, 0, 0] ∧ win0_3.index t = ![t.val / 4, 0, 0]
    ∧ win0_4.index t = ![t.val / 4, 0, 0] ∧ win0_5.index t = ![t.val / 4, 0, 0]
    ∧ win0_6.index t = ![0, 0] ∧ win0_7.index t = ![t.val % 4, 0] ∧ win0_8.index t = ![t.val % 4, 0]
    ∧ win0_9.index t = ![t.val / 4, t.val % 4, 0] :=
  (by decide +kernel : ∀ t : Fin grid0.N, _)

variable (c : Dev nD) (t : Fin cfg0.N)

section reads
variable (b : Fin 4) (hb : b.val = t.val / 4) (r : Fin 512) (u : Fin 2048) (hu : u.val = t.val % 4 * 512 + r.val)
include hb hu

/-- A query block's entry. -/
theorem read_q (e : Fin 1024) : iblk m c 0 t (ix3 0 r e)
    = m ((c.tc : Thread nD τ).loc main_arg0) (ix3 b u ⟨4096 + e.val, by omega⟩) := by
  blk_point [iblk, V_main_arg0, idx t]

/-- A gate block's entry. -/
theorem read_z (e : Fin 1024) : iblk m c 1 t (ix3 0 r e)
    = m ((c.tc : Thread nD τ).loc main_arg0) (ix3 b u ⟨5120 + e.val, by omega⟩) := by
  blk_point [iblk, V_main_arg0, idx t]

omit hb in
/-- A block of the table of cosines. -/
theorem read_cos (d : Fin 128) : iblk m c 7 t (ix2 r d)
    = if e : d.val < 64 then val_main_v41 (F := Ideal) (ix2 u ⟨d.val, e⟩)
      else val_main_v41 (F := Ideal) (ix2 u ⟨d.val - 64, by omega⟩) := by
  refine Eq.trans ?_ (cos_entry m c (ix2 u d))
  blk_point [iblk, idx t]

omit hb in
/-- A block of the table of signed sines. -/
theorem read_sin (d : Fin 128) : iblk m c 8 t (ix2 r d)
    = if e : d.val < 64 then -val_main_v43 (F := Ideal) (ix2 u ⟨d.val, e⟩)
      else val_main_v43 (F := Ideal) (ix2 u ⟨d.val - 64, by omega⟩) := by
  refine Eq.trans ?_ (sin_entry m c (ix2 u d))
  blk_point [iblk, idx t]

omit hb hu in
/-- The row of norm weights. -/
theorem read_w (d : Fin 128) : iblk m c 6 t (ix2 0 d) = m ((c.tc : Thread nD τ).loc main_arg5) (ix1 d) := by
  refine Eq.trans ?_ (weight_entry m c (ix2 0 d))
  blk_point [iblk, idx t]

omit hu in
/-- A block of the latent keys. -/
theorem read_k (l : Fin 2048) (e : Fin 256) : iblk m c 2 t (ix3 0 l e)
    = m ((c.tc : Thread nD τ).loc main_arg1) (ix3 b l e) := by
  blk_point [iblk, V_main_arg1, idx t]

omit hu in
/-- A block of the context keys. -/
theorem read_kc (l : Fin 256) (e : Fin 256) : iblk m c 3 t (ix3 0 l e)
    = m ((c.tc : Thread nD τ).loc main_arg2) (ix3 b l e) := by
  blk_point [iblk, V_main_arg2, idx t]

omit hu in
/-- A block of the latent values, each head's followed by ones. -/
theorem read_v (l : Fin 2048) (e : Fin 512) (x : Fin 256) (kv : Fin 2) (he : e.val = kv.val * 256 + x.val) : iblk m c 4 t (ix3 0 l e)
    = if h : x.val < 128 then m ((c.tc : Thread nD τ).loc main_arg3) (ix3 b l ⟨kv.val * 128 + x.val, by omega⟩) else (1 : EReal) := by
  have hx : e.val % 256 = x.val := by omega
  have hk : e.val / 256 = kv.val := by omega
  refine Eq.trans (b := (V m c main_v30 : S4x2048x512.Idx → EReal) (ix3 b l e)) ?_ ((val_entry m c (ix3 b l e)).trans ?_)
  · blk_point [iblk, idx t]
  · by_cases h : x.val < 128
    · refine (dif_pos (show e.val % 256 < 128 by omega)).trans (Eq.trans ?_ (dif_pos h).symm)
      exact congrArg (fun k => m ((c.tc : Thread nD τ).loc main_arg3) (ix3 b l k)) (Fin.ext (by show e.val / 256 * 128 + e.val % 256 = kv.val * 128 + x.val; omega))
    · rw [dif_neg h]
      exact dif_neg (show ¬ e.val % 256 < 128 by omega)

omit hu in
/-- A block of the context values, each head's followed by ones. -/
theorem read_vc (l : Fin 256) (e : Fin 512) (x : Fin 256) (kv : Fin 2) (he : e.val = kv.val * 256 + x.val) : iblk m c 5 t (ix3 0 l e)
    = if h : x.val < 128 then m ((c.tc : Thread nD τ).loc main_arg4) (ix3 b l ⟨kv.val * 128 + x.val, by omega⟩) else (1 : EReal) := by
  have hx : e.val % 256 = x.val := by omega
  have hk : e.val / 256 = kv.val := by omega
  refine Eq.trans (b := (V m c main_v34 : S4x256x512.Idx → EReal) (ix3 b l e)) ?_ ((val_ctx_entry m c (ix3 b l e)).trans ?_)
  · blk_point [iblk, idx t]
  · by_cases h : x.val < 128
    · refine (dif_pos (show e.val % 256 < 128 by omega)).trans (Eq.trans ?_ (dif_pos h).symm)
      exact congrArg (fun k => m ((c.tc : Thread nD τ).loc main_arg4) (ix3 b l k)) (Fin.ext (by show e.val / 256 * 128 + e.val % 256 = kv.val * 128 + x.val; omega))
    · rw [dif_neg h]
      exact dif_neg (show ¬ e.val % 256 < 128 by omega)

end reads

end Cert.KernelIdeal.Value

end
-- ==== Proof.AttnValue.lean ====
module

public import proofs.«01_k».proof.Proof.Gen.KernelIdeal.Value
public import proofs.«01_k».proof.Proof.Gen.ReferenceIdeal.Read
public import proofs.«01_k».proof.Proof.AttnHead
public import proofs.«01_k».proof.Proof.AttnBlocks
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
open Cert.ReferenceIdeal.Read

section pieces
variable (x0 x1 : Vec Ideal S1x512x1024 .bf16) (x2 : Vec Ideal S1x2048x256 .bf16) (x3 : Vec Ideal S1x256x256 .bf16)
  (x4 : Vec Ideal S1x2048x512 .bf16) (x5 : Vec Ideal S1x256x512 .bf16) (x6 : Vec Ideal S1x128 .f32) (x7 x8 : Vec Ideal S512x128 .f32)

/-- One head's tile, from the head's query and gate columns and its group's keys and values. -/
def tile (q z : Vec Ideal S1x512x128 .bf16) (w : Vec Ideal S1x128 .f32) (cs sn : Vec Ideal S512x128 .f32)
    (kl : Vec Ideal S1x2048x128 .bf16) (kk : Vec Ideal S1x256x128 .bf16)
    (vl : Vec Ideal S1x2048x256 .bf16) (vk : Vec Ideal S1x256x256 .bf16) : Vec Ideal S1x512x128 .bf16 :=
  k0_pay9 (F := Ideal) (k0_pay3 q w cs sn kl) (k0_pay4 q w cs sn kk) (k0_pay8 (k0_pay3 q w cs sn kl)) vl vk z

/-- The block the body leaves is eight heads' tiles. -/
theorem out_tiles : out0_9 (F := Ideal) x0 x1 x2 x3 x4 x5 x6 x7 x8 = View.canon [
    ⟨r0_17, tile (View.ld x0 r0_17) (View.ld x1 r0_17) (View.ld x6 r0_1) (View.ld x7 r0_2) (View.ld x8 r0_2) (View.ld x2 r0_11) (View.ld x3 r0_12) (View.ld x4 r0_14) (View.ld x5 r0_15)⟩,
    ⟨r0_16, tile (View.ld x0 r0_16) (View.ld x1 r0_16) (View.ld x6 r0_1) (View.ld x7 r0_2) (View.ld x8 r0_2) (View.ld x2 r0_11) (View.ld x3 r0_12) (View.ld x4 r0_14) (View.ld x5 r0_15)⟩,
    ⟨r0_13, tile (View.ld x0 r0_13) (View.ld x1 r0_13) (View.ld x6 r0_1) (View.ld x7 r0_2) (View.ld x8 r0_2) (View.ld x2 r0_11) (View.ld x3 r0_12) (View.ld x4 r0_14) (View.ld x5 r0_15)⟩,
    ⟨r0_10, tile (View.ld x0 r0_10) (View.ld x1 r0_10) (View.ld x6 r0_1) (View.ld x7 r0_2) (View.ld x8 r0_2) (View.ld x2 r0_11) (View.ld x3 r0_12) (View.ld x4 r0_14) (View.ld x5 r0_15)⟩,
    ⟨r0_9, tile (View.ld x0 r0_9) (View.ld x1 r0_9) (View.ld x6 r0_1) (View.ld x7 r0_2) (View.ld x8 r0_2) (View.ld x2 r0_3) (View.ld x3 r0_4) (View.ld x4 r0_6) (View.ld x5 r0_7)⟩,
    ⟨r0_8, tile (View.ld x0 r0_8) (View.ld x1 r0_8) (View.ld x6 r0_1) (View.ld x7 r0_2) (View.ld x8 r0_2) (View.ld x2 r0_3) (View.ld x3 r0_4) (View.ld x4 r0_6) (View.ld x5 r0_7)⟩,
    ⟨r0_5, tile (View.ld x0 r0_5) (View.ld x1 r0_5) (View.ld x6 r0_1) (View.ld x7 r0_2) (View.ld x8 r0_2) (View.ld x2 r0_3) (View.ld x3 r0_4) (View.ld x4 r0_6) (View.ld x5 r0_7)⟩,
    ⟨r0_0, tile (View.ld x0 r0_0) (View.ld x1 r0_0) (View.ld x6 r0_1) (View.ld x7 r0_2) (View.ld x8 r0_2) (View.ld x2 r0_3) (View.ld x3 r0_4) (View.ld x4 r0_6) (View.ld x5 r0_7)⟩] := rfl

end pieces

variable (m : (ℓ : Loc nD τ sig) → Buf (Elt Ideal) ℓ)

variable (c : Dev nD) (t : Fin cfg0.N)

section tiles
variable (p : FVec Ideal S4x2048x11264 .bf16) (kn : FVec Ideal S4x2048x256 .bf16) (kc : FVec Ideal S4x256x256 .bf16)
  (v : FVec Ideal S4x2048x256 .bf16) (vc : FVec Ideal S4x256x256 .bf16) (w : FVec Ideal S128 .f32)
  (x0 x1 : Vec Ideal S1x512x1024 .bf16) (x2 : Vec Ideal S1x2048x256 .bf16) (x3 : Vec Ideal S1x256x256 .bf16)
  (x4 : Vec Ideal S1x2048x512 .bf16) (x5 : Vec Ideal S1x256x512 .bf16) (x6 : Vec Ideal S1x128 .f32) (x7 x8 : Vec Ideal S512x128 .f32)
  (b : Fin 4) (r : Fin 512) (u : Fin 2048)

/-- One head's tile over blocks that hold a batch's rows, at a row and column: the reference's output there. The
    rectangles' offsets are given by the head and its group. -/
theorem tile_point
    (hq : ∀ e : Fin 1024, x0 (ix3 0 r e) = p (ix3 b u ⟨4096 + e.val, by omega⟩))
    (hz : ∀ e : Fin 1024, x1 (ix3 0 r e) = p (ix3 b u ⟨5120 + e.val, by omega⟩))
    (hk : ∀ (l : Fin 2048) (e : Fin 256), x2 (ix3 0 l e) = kn (ix3 b l e))
    (hkc : ∀ (l : Fin 256) (e : Fin 256), x3 (ix3 0 l e) = kc (ix3 b l e))
    (hv : ∀ (l : Fin 2048) (e : Fin 512) (x : Fin 256) (kv : Fin 2), e.val = kv.val * 256 + x.val →
      x4 (ix3 0 l e) = if h : x.val < 128 then v (ix3 b l ⟨kv.val * 128 + x.val, by omega⟩) else (1 : EReal))
    (hvc : ∀ (l : Fin 256) (e : Fin 512) (x : Fin 256) (kv : Fin 2), e.val = kv.val * 256 + x.val →
      x5 (ix3 0 l e) = if h : x.val < 128 then vc (ix3 b l ⟨kv.val * 128 + x.val, by omega⟩) else (1 : EReal))
    (hw : ∀ d : Fin 128, x6 (ix2 0 d) = w (ix1 d))
    (hcs : ∀ d : Fin 128, x7 (ix2 r d) = if e : d.val < 64 then val_main_v41 (F := Ideal) (ix2 u ⟨d.val, e⟩)
      else val_main_v41 (F := Ideal) (ix2 u ⟨d.val - 64, by omega⟩))
    (hsn : ∀ d : Fin 128, x8 (ix2 r d) = if e : d.val < 64 then -val_main_v43 (F := Ideal) (ix2 u ⟨d.val, e⟩)
      else val_main_v43 (F := Ideal) (ix2 u ⟨d.val - 64, by omega⟩))
    (fn : ∀ j, ∃ r : ℝ, kn j = r) (fc : ∀ j, ∃ r : ℝ, kc j = r) (fw : ∀ d, ∃ r : ℝ, w d = r)
    (h : Fin 8) (kv : Fin 2) (g : Fin 4) (hh : h.val = kv.val * 4 + g.val)
    {oq : Fin 3 → ℕ} {ow ot : Fin 2 → ℕ} {ok okk ov ovk : Fin 3 → ℕ} (iq iw it ik ikk iv ivk)
    (eq : oq = ![0, 0, h.val * 128]) (ew : ow = ![0, 0]) (et : ot = ![0, 0]) (ek : ok = ![0, 0, kv.val * 128]) (ekk : okk = ![0, 0, kv.val * 128])
    (ev : ov = ![0, 0, kv.val * 256]) (evk : ovk = ![0, 0, kv.val * 256])
    (d : Fin 128) (j : S4x2048x1024.Idx) (hj : j = ix3 b u ⟨h.val * 128 + d.val, by omega⟩) :
    tile (View.ld x0 (Rect.unit (s := S1x512x1024) oq S1x512x128.size iq))
        (View.ld x1 (Rect.unit (s := S1x512x1024) oq S1x512x128.size iq))
        (View.ld x6 (Rect.unit (s := S1x128) ow S1x128.size iw))
        (View.ld x7 (Rect.unit (s := S512x128) ot S512x128.size it))
        (View.ld x8 (Rect.unit (s := S512x128) ot S512x128.size it))
        (View.ld x2 (Rect.unit (s := S1x2048x256) ok S1x2048x128.size ik))
        (View.ld x3 (Rect.unit (s := S1x256x256) okk S1x256x128.size ikk))
        (View.ld x4 (Rect.unit (s := S1x2048x512) ov S1x2048x256.size iv))
        (View.ld x5 (Rect.unit (s := S1x256x512) ovk S1x256x256.size ivk)) (ix3 0 r d)
      = val_main_v88 (F := Ideal) p kn kc v vc w j := by
  subst eq ew et ek ekk ev evk
  have ext3 : ∀ {s : Fin 3 → ℕ} {q : Fin 3 → ℕ} {i : ∀ a, Fin (s a)} {x : ∀ a, Fin (q a)} {o : Fin 3 → ℕ},
      (i 0 : ℕ) = o 0 + x 0 → (i 1 : ℕ) = o 1 + x 1 → (i 2 : ℕ) = o 2 + x 2 → ∀ a, (i a : ℕ) = o a + x a := by
    intro s q i x o h0 h1 h2 a
    fin_cases a <;> assumption
  have ext2 : ∀ {s : Fin 2 → ℕ} {q : Fin 2 → ℕ} {i : ∀ a, Fin (s a)} {x : ∀ a, Fin (q a)} {o : Fin 2 → ℕ},
      (i 0 : ℕ) = o 0 + x 0 → (i 1 : ℕ) = o 1 + x 1 → ∀ a, (i a : ℕ) = o a + x a := by
    intro s q i x o h0 h1 a
    fin_cases a <;> assumption
  refine head_point _ _ _ _ _ _ _ _ _ _ _ _ _ _ _ b u h r kv g hh (fun e => ?_) (fun e => ?_) (fun e => ?_) (fun e => ?_)
    (fun l e => ?_) (fun l e => ?_) (fun l e => ?_) (fun l e => ?_) (fun e => ?_) fw fn fc d j hj
  · refine (View.ld_unit_apply_of _ _ _ _ (ix3 0 r e) (ix3 (0 : Fin 1) r (⟨h.val * 128 + e.val, by omega⟩ : Fin 1024)) ?_).trans (hq _)
    exact ext3 rfl (Nat.zero_add _).symm rfl
  · refine (View.ld_unit_apply_of _ _ _ _ (ix2 (0 : Fin 1) e) (ix2 (0 : Fin 1) e) ?_).trans (hw e)
    exact ext2 rfl (Nat.zero_add _).symm
  · refine (View.ld_unit_apply_of _ _ _ _ (ix2 r e) (ix2 r e) ?_).trans (hcs e)
    exact ext2 (Nat.zero_add _).symm (Nat.zero_add _).symm
  · refine (View.ld_unit_apply_of _ _ _ _ (ix2 r e) (ix2 r e) ?_).trans (hsn e)
    exact ext2 (Nat.zero_add _).symm (Nat.zero_add _).symm
  · refine (View.ld_unit_apply_of _ _ _ _ (ix3 0 l e) (ix3 (0 : Fin 1) l (⟨kv.val * 128 + e.val, by omega⟩ : Fin 256)) ?_).trans (hk l _)
    exact ext3 rfl (Nat.zero_add _).symm rfl
  · refine (View.ld_unit_apply_of _ _ _ _ (ix3 0 l e) (ix3 (0 : Fin 1) l (⟨kv.val * 128 + e.val, by omega⟩ : Fin 256)) ?_).trans (hkc l _)
    exact ext3 rfl (Nat.zero_add _).symm rfl
  · refine (View.ld_unit_apply_of _ _ _ _ (ix3 0 l e) (ix3 (0 : Fin 1) l (⟨kv.val * 256 + e.val, by omega⟩ : Fin 512)) ?_).trans (hv l _ e kv rfl)
    exact ext3 rfl (Nat.zero_add _).symm rfl
  · refine (View.ld_unit_apply_of _ _ _ _ (ix3 0 l e) (ix3 (0 : Fin 1) l (⟨kv.val * 256 + e.val, by omega⟩ : Fin 512)) ?_).trans (hvc l _ e kv rfl)
    exact ext3 rfl (Nat.zero_add _).symm rfl
  · refine (View.ld_unit_apply_of _ _ _ _ (ix3 0 r e) (ix3 (0 : Fin 1) r (⟨h.val * 128 + e.val, by omega⟩ : Fin 1024)) ?_).trans (hz _)
    exact ext3 rfl (Nat.zero_add _).symm rfl

end tiles

section value
variable (fn : ∀ j, ∃ r : ℝ, m ((c.tc : Thread nD τ).loc main_arg1) j = (r : EReal))
  (fc : ∀ j, ∃ r : ℝ, m ((c.tc : Thread nD τ).loc main_arg2) j = (r : EReal))
  (fw : ∀ j, ∃ r : ℝ, m ((c.tc : Thread nD τ).loc main_arg5) j = (r : EReal))
include fn fc fw

/-- The block the kernel leaves at a grid point holds the reference's output. -/
theorem out_point (y : S1x512x1024.Idx) (j : S4x2048x1024.Idx) (h0 : (j 0 : ℕ) = t.val / 4) (h1 : (j 1 : ℕ) = t.val % 4 * 512 + y 1)
    (h2 : (j 2 : ℕ) = y 2) :
    out0_9 (F := Ideal) (iblk m c 0 t) (iblk m c 1 t) (iblk m c 2 t) (iblk m c 3 t) (iblk m c 4 t) (iblk m c 5 t) (iblk m c 6 t) (iblk m c 7 t) (iblk m c 8 t) y
      = val_main_v88 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) j := by
  have key : ∀ (h : Fin 8) (x : S1x512x128.Idx), (y 2).val = h.val * 128 + (x 2).val → (y 1).val = (x 1).val →
      x = ix3 0 (x 1) (x 2) ∧ j = ix3 (j 0) (j 1) (⟨h.val * 128 + (x 2).val, by have := (x 2).isLt; simp at *; omega⟩ : Fin 1024) ∧
      (j 1 : ℕ) = t.val % 4 * 512 + (x 1).val := by
    intro h x e2 e1
    refine ⟨?_, ?_, by omega⟩
    · funext a
      fin_cases a
      · exact Fin.ext (Nat.lt_one_iff.mp (x 0).isLt)
      · rfl
      · rfl
    · funext a
      fin_cases a
      · rfl
      · rfl
      · exact Fin.ext (h2.trans e2)
  rw [out_tiles]
  have hb := h0
  clear h0
  canon_tiles x h
  · obtain ⟨ex, ej, eu⟩ := key 7 x (by show (y 2 : ℕ) = 7 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 7 1 3 rfl _ _ _ _ _ _ _ rfl rfl rfl rfl rfl rfl rfl (x 2) j ej
  · obtain ⟨ex, ej, eu⟩ := key 6 x (by show (y 2 : ℕ) = 6 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 6 1 2 rfl _ _ _ _ _ _ _ rfl rfl rfl rfl rfl rfl rfl (x 2) j ej
  · obtain ⟨ex, ej, eu⟩ := key 5 x (by show (y 2 : ℕ) = 5 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 5 1 1 rfl _ _ _ _ _ _ _ rfl rfl rfl rfl rfl rfl rfl (x 2) j ej
  · obtain ⟨ex, ej, eu⟩ := key 4 x (by show (y 2 : ℕ) = 4 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 4 1 0 rfl _ _ _ _ _ _ _ rfl rfl rfl rfl rfl rfl rfl (x 2) j ej
  · obtain ⟨ex, ej, eu⟩ := key 3 x (by show (y 2 : ℕ) = 3 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 3 0 3 rfl _ _ _ _ _ _ _ rfl rfl rfl rfl rfl rfl rfl (x 2) j ej
  · obtain ⟨ex, ej, eu⟩ := key 2 x (by show (y 2 : ℕ) = 2 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 2 0 2 rfl _ _ _ _ _ _ _ rfl rfl rfl rfl rfl rfl rfl (x 2) j ej
  · obtain ⟨ex, ej, eu⟩ := key 1 x (by show (y 2 : ℕ) = 1 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 1 0 1 rfl _ _ _ _ _ _ _ rfl rfl rfl rfl rfl rfl rfl (x 2) j ej
  · obtain ⟨ex, ej, eu⟩ := key 0 x (by show (y 2 : ℕ) = 0 * 128 + _; omega) (by omega)
    rw [ex]
    exact tile_point _ _ _ _ _ _ _ _ _ _ _ _ _ _ _ (j 0) (x 1) (j 1) (read_q m c t _ hb _ _ eu) (read_z m c t _ hb _ _ eu) (read_k m c t _ hb) (read_kc m c t _ hb)
      (read_v m c t _ hb 0 0) (read_vc m c t _ hb 0 0) (read_w m c t) (read_cos m c t 0 _ _ eu) (read_sin m c t 0 _ _ eu) fn fc fw 0 0 0 rfl _ _ _ _ _ _ _ rfl rfl rfl rfl rfl rfl rfl (x 2) j ej

/-- What the kernel leaves in its output is the reference's result. -/
theorem final : (dats m 0 c).arrAt 9 cfg0.N
    = val_main_v88 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 9 _ (by decide +kernel) fun t _ y => ?_
  blk_simp
  rw [after0_9]
  refine out_point m c t fn fc fw _ _ ?_ ?_ ?_
  all_goals (blk_simp [idx t] <;> try omega)

end value

end Cert.KernelIdeal.Value

end
-- ==== Proof.ModValue.lean ====
module

public import proofs.«01_k».proof.Proof.Gen.ModIdeal.Value
public import proofs.«01_k».proof.Proof.Gen.ModRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Value
open Cert.ModIdeal Cert.ModIdeal.Gen
open Cert.ModRefIdeal.Read

variable (m : (ℓ : Loc nD τ sig) → Buf (Elt Ideal) ℓ)

/-- Every grid point reads all eight rows and its own 768 columns of the weight and of the bias. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The stacked rows: the latent conditionings, the context's, and three rows of zeros. -/
theorem table_rows (c : Dev nD) : (V m c main_v2 : S8x2048.Idx → EReal)
    = concatenate S8x2048 0 [⟨S4x2048, (m ((c.tc : Thread nD τ).loc main_arg0) : S4x2048.Idx → EReal)⟩,
        ⟨S1x2048, (broadcastInDim S1x2048 ![1] bcast_S2048_S1x2048_1 (m ((c.tc : Thread nD τ).loc main_arg1) : S2048.Idx → EReal) : S1x2048.Idx → EReal)⟩,
        ⟨S3x2048, (broadcastInDim S3x2048 ![] bcast_S_S3x2048 (constant (F := Ideal) S_ .f32 0x00000000#32) : S3x2048.Idx → EReal)⟩]
        concatenates_S4x2048_S1x2048_S3x2048_S8x2048_d0 := by
  unfold V
  simp only [hostOps0, List.flatten_cons, List.flatten_nil,
    List.append_nil, List.cons_append, List.nil_append]
  after_results
  rfl

/-- One entry of the stacked rows. -/
theorem row_entry (c : Dev nD) (r : Fin 8) (k : Fin 2048) : (V m c main_v2 : S8x2048.Idx → EReal) (ix2 r k)
    = if h : r.val < 4 then (m ((c.tc : Thread nD τ).loc main_arg0) : S4x2048.Idx → EReal) (ix2 ⟨r.val, h⟩ k)
      else if r.val < 5 then (m ((c.tc : Thread nD τ).loc main_arg1) : S2048.Idx → EReal) (ix1 k) else (0 : EReal) := by
  rw [table_rows]
  pointwise []
  simp only [show (r.val - 4 < 1 ↔ r.val < 5 ∨ r.val < 4) by omega]
  by_cases h : r.val < 4
  · rw [dif_pos h, dif_pos h]
  · rw [dif_neg h, dif_neg h]
    by_cases h5 : r.val < 5
    · rw [dif_pos (Or.inl h5), if_pos h5]
    · rw [dif_neg (by omega), if_neg h5]

/-- The bias as a row. -/
theorem bias_entry (c : Dev nD) (j : Fin 6144) : (V m c main_v3 : S1x6144.Idx → EReal) (ix2 (0 : Fin 1) j)
    = (m ((c.tc : Thread nD τ).loc main_arg3) : S6144.Idx → EReal) (ix1 j) := by
  have h : (V m c main_v3 : S1x6144.Idx → EReal) = broadcastInDim S1x6144 ![1] bcast_S6144_S1x6144_1 (m ((c.tc : Thread nD τ).loc main_arg3) : S6144.Idx → EReal) := by
    unfold V
    simp only [hostOps0, List.flatten_cons, List.flatten_nil,
      List.append_nil, List.cons_append, List.nil_append]
    after_results
  rw [h]
  pointwise []

/-- One block of the product is the reference's. -/
theorem out_point (c : Dev nD) (t : Fin cfg0.N) (y : S8x768.Idx) (z : S8x6144.Idx)
    (h0 : (z 0 : ℕ) = y 0) (h1 : (z 1 : ℕ) = t.val * 768 + y 1) :
    k0_pay1 (F := Ideal) (iblk m c 0 t) (iblk m c 1 t) (iblk m c 2 t) y
      = val_main_v10 (F := Ideal) (m ((c.tc : Thread nD τ).loc main_arg0)) (m ((c.tc : Thread nD τ).loc main_arg1))
          (m ((c.tc : Thread nD τ).loc main_arg2)) (m ((c.tc : Thread nD τ).loc main_arg3)) z := by
  pointwise [k0_pay1, val_main_v10, val_main_v9, val_main_v8, val_main_v7, val_main_v6, val_main_v5, val_main_call1_v5, val_main_call1_v4, val_main_call1_cst_0, val_main_call1_v3, val_main_call1_v2, val_main_call1_cst, val_main_call1_v1, val_main_call1_v0, val_main_v4, val_main_v3, val_main_v2, val_main_v1, val_main_v0, val_main_call0_v5, val_main_call0_v4, val_main_call0_cst_0, val_main_call0_v3, val_main_call0_v2, val_main_call0_cst, val_main_call0_v1, val_main_call0_v0, Ideal.logistic]
  have eA : ∀ k : Fin 2048, (iblk m c 0 t : S8x2048.Idx → EReal) (ix2 (y 0) k) = if h : (z 0).val < 4 then (m ((c.tc : Thread nD τ).loc main_arg0) : S4x2048.Idx → EReal) (ix2 ⟨(z 0).val, h⟩ k)
      else if (z 0).val < 5 then (m ((c.tc : Thread nD τ).loc main_arg1) : S2048.Idx → EReal) (ix1 k) else (0 : EReal) := by
    intro k
    refine Eq.trans ?_ (row_entry m c (z 0) k)
    blk_point [iblk, idx t]
  have eW : ∀ k : Fin 2048, (iblk m c 1 t : S2048x768.Idx → EReal) (ix2 k (y 1)) = (m ((c.tc : Thread nD τ).loc main_arg2) : S2048x6144.Idx → EReal) (ix2 k (z 1)) := by
    intro k
    blk_point [iblk, V_main_arg2, idx t]
  have eB : (iblk m c 2 t : S1x768.Idx → EReal) (ix2 (0 : Fin 1) (y 1)) = (m ((c.tc : Thread nD τ).loc main_arg3) : S6144.Idx → EReal) (ix1 (z 1)) := by
    refine Eq.trans ?_ (bias_entry m c (z 1))
    blk_point [iblk, idx t]
  refine Eq.trans (congrArg₂ (· + ·) (Finset.sum_congr rfl fun k _ => congrArg₂ (· * ·)
    (congrArg (fun e : EReal => e * Ideal.div 1 (1 + Ideal.exp (-e))) (eA k)) (eW k)) eB) ?_
  by_cases h : (z 0).val < 4
  · simp only [dif_pos h]
  · rw [dif_neg h]
    by_cases h5 : (z 0).val < 5
    · rw [dif_pos (show (z 0).val - 4 < 1 by omega)]
      simp only [dif_neg h, if_pos h5]
    · rw [dif_neg (show ¬ ((z 0).val - 4 < 1) by omega)]
      simp only [dif_neg h, if_neg h5, zero_mul, Finset.sum_const_zero, zero_add]

/-- The rows after the run are the reference's. -/
theorem final (c : Dev nD) : (dats m 0 c).arrAt 3 (cfgs 0).N
    = val_main_v10 (F := Ideal) (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 3 _ (by decide +kernel) fun t _ y => ?_
  blk_simp
  rw [after0_3]
  frame_out
  refine out_point m c t _ _ ?_ ?_
  all_goals (blk_simp [idx t] <;> try omega)

end Cert.ModIdeal.Value

end
-- ==== Proof.FiniteScores.lean ====
module

public import proofs.«01_k».proof.Pre_finite_scores
public import Idealize.ShloMosaic.Lib.ReduceAll
public import Idealize.ShloMosaic.Lib.Pointwise
public import Idealize.ShloMosaic.PureOps.Ideal

@[expose] public section

set_option maxRecDepth 16384

noncomputable section

open Idealize.ShloMosaic

namespace Cert.Pre_finite_scores

/-- The side conditions of the predicate's operations. -/
theorem facts : Facts :=
  ⟨by decide, by decide, by decide, by decide, by decide, by decide, by decide, by decide⟩

variable [Facts]
open Facts

/-- The result of the predicate has one index. -/
instance : Subsingleton S_.Idx := ⟨fun a b => funext fun i => i.elim0⟩

/-- A value whose magnitude is below infinity is a real number. -/
theorem real_of_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable (p : FVec Ideal S4x2048x11264 .bf16) (kn : FVec Ideal S4x2048x256 .bf16) (kc : FVec Ideal S4x256x256 .bf16)
  (v : FVec Ideal S4x2048x256 .bf16) (vc : FVec Ideal S4x256x256 .bf16) (w : FVec Ideal S128 .f32)

/-- Where the predicate holds, the keys and the query norm's weights are real numbers. -/
theorem reals (h : fn (F := Ideal) p kn kc v vc w = fun _ => 1#1) :
    (∀ j, ∃ r : ℝ, kn j = (r : EReal)) ∧ (∀ j, ∃ r : ℝ, kc j = (r : EReal)) ∧ (∀ j, ∃ r : ℝ, w j = (r : EReal)) := by
  have h0 : fn (F := Ideal) p kn kc v vc w (fun i => i.elim0) = 1#1 := congrFun h _
  obtain ⟨h1, hw⟩ := IntOp.andi_eq_one.1 h0
  obtain ⟨hn, hc⟩ := IntOp.andi_eq_one.1 h1
  refine ⟨fun j => ?_, fun j => ?_, fun j => ?_⟩
  · exact real_of_lt _ (Host.reduce_andi_all _ _ _ _ _ hn j)
  · exact real_of_lt _ (Host.reduce_andi_all _ _ _ _ _ hc j)
  · exact real_of_lt _ (Host.reduce_andi_all _ _ _ _ _ hw j)

end Cert.Pre_finite_scores

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.MergeIdeal.Value
public import proofs.«01_k».proof.Proof.Gen.InprojIdeal.Value
public import proofs.«01_k».proof.Proof.Gen.MergeRefIdeal.Run
public import proofs.«01_k».proof.Proof.Gen.MergeRefIdeal.Read
public import proofs.«01_k».proof.Proof.Gen.InprojRefIdeal.Run
public import proofs.«01_k».proof.Proof.Gen.InprojRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.InprojCtx
public import proofs.«01_k».proof.Proof.Gen.InprojCtx.Skeleton
public import proofs.«01_k».proof.Proof.Gen.InprojCtx.Launch
public import proofs.«01_k».proof.Proof.Gen.InprojCtx.Points
public import proofs.«01_k».proof.Proof.Gen.InprojCtx.Frame
public import proofs.«01_k».proof.Proof.Gen.InprojCtxIdeal
public import proofs.«01_k».proof.Proof.Gen.InprojCtxIdeal.Skeleton
public import proofs.«01_k».proof.Proof.Gen.InprojCtxIdeal.Launch
public import proofs.«01_k».proof.Proof.Gen.InprojCtxIdeal.Points
public import proofs.«01_k».proof.Proof.Gen.InprojCtxIdeal.Frame
public import proofs.«01_k».proof.Proof.Gen.InprojCtxIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InprojCtxRefIdeal
public import proofs.«01_k».proof.Proof.Gen.InprojCtxRefIdeal.Run
public import proofs.«01_k».proof.Proof.Gen.InprojCtxRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Pre_finite_scores
public import proofs.«01_k».proof.Proof.InprojValue
public import proofs.«01_k».proof.Proof.MergeValue
public import proofs.«01_k».proof.Proof.InprojCtxValue
public import proofs.«01_k».proof.Proof.AttnValue
public import proofs.«01_k».proof.Proof.ModValue
public import proofs.«01_k».proof.Proof.FiniteScores
public import Idealize.ShloMosaic.Lib.Claim
public import Idealize.ShloMosaic.Adequacy
public import Idealize.ShloMosaic.Init

@[expose] public section

noncomputable section

namespace Cert.Proof

open Idealize.ShloMosaic Idealize.SL.Sem

/-- The merge's two programs leave the same array. -/
theorem merge_algebraic [hI : Cert.MergeIdeal.Facts] [hR : Cert.MergeRefIdeal.Facts] :
    Cert.algebraic_MergeIdeal_MergeRefIdeal := by
  pair_intro
  · run_from Cert.MergeIdeal.Value.run_blocks m g
  · run_from Cert.MergeRefIdeal.Value.run m' g'
    exact (Cert.MergeIdeal.Value.final m c).symm

/-- The projection's two programs leave the same array. -/
theorem inproj_algebraic [hI : Cert.InprojIdeal.Facts] [hR : Cert.InprojRefIdeal.Facts] :
    Cert.algebraic_InprojIdeal_InprojRefIdeal := by
  pair_intro
  · run_from Cert.InprojIdeal.Value.run_blocks m g
  · run_from Cert.InprojRefIdeal.Value.run m' g'
    exact (Cert.InprojIdeal.Value.final m c).symm

/-- The merge's reference terminates and leaves its arguments as they were. -/
theorem mergeRef_frame [hR : Cert.MergeRefIdeal.Facts] : Cert.quiescent_MergeRefIdeal := by
  intro m g _
  hlo_run
  · intro c; simp
  · funext g
    rcases g with ⟨_, s | s⟩ <;> exact Fin.elim0 s

/-- The projection's reference terminates and leaves its arguments as they were. -/
theorem inprojRef_frame [hR : Cert.InprojRefIdeal.Facts] : Cert.quiescent_InprojRefIdeal := by
  intro m g _
  hlo_run
  · intro c; simp
  · funext g
    rcases g with ⟨_, s | s⟩ <;> exact Fin.elim0 s

/-- The context projection's two programs leave the same array. -/
theorem inprojCtx_algebraic [hI : Cert.InprojCtxIdeal.Facts] [hR : Cert.InprojCtxRefIdeal.Facts] :
    Cert.algebraic_InprojCtxIdeal_InprojCtxRefIdeal := by
  pair_intro
  · run_from Cert.InprojCtxIdeal.Value.run_blocks m g
  · run_from Cert.InprojCtxRefIdeal.Value.run m' g'
    have h := Cert.InprojCtxIdeal.Value.final m c
    rw [← (hagree c).2.2.2] at h
    exact h.symm

/-- The context projection's reference terminates and leaves its arguments as they were. -/
theorem inprojCtxRef_frame [hR : Cert.InprojCtxRefIdeal.Facts] : Cert.quiescent_InprojCtxRefIdeal := by
  intro m g _
  hlo_run
  · intro c; simp
  · funext g
    rcases g with ⟨_, s | s⟩ <;> exact Fin.elim0 s

/-- The adaLN rows' two programs leave the same array. -/
theorem mod_algebraic [hI : Cert.ModIdeal.Facts] [hR : Cert.ModRefIdeal.Facts] :
    Cert.algebraic_ModIdeal_ModRefIdeal := by
  pair_intro
  · run_from Cert.ModIdeal.Value.run_blocks m g
  · run_from Cert.ModRefIdeal.Value.run m' g'
    have h := Cert.ModIdeal.Value.final m c
    rw [← (hagree c).2.2.2] at h
    exact (Cert.ModRefIdeal.Read.val_main_v10_eq _ _ _ _).trans h.symm

/-- The reference of the adaLN rows terminates and leaves its arguments as they were. -/
theorem modRef_frame [hR : Cert.ModRefIdeal.Facts] : Cert.quiescent_ModRefIdeal := by
  intro m g _
  hlo_run
  · intro c; simp
  · funext g
    rcases g with ⟨_, s | s⟩ <;> exact Fin.elim0 s

/-- The attention's two programs leave the same array, from finite keys and norm weights. -/
theorem attention_algebraic [hI : Cert.KernelIdeal.Facts] [hR : Cert.ReferenceIdeal.Facts]
    [hP : Cert.Pre_finite_scores.Facts] :
    Cert.algebraic_KernelIdeal_ReferenceIdeal_pre_finite_scores := by
  pair_intro
  · run_from Cert.KernelIdeal.Value.run_blocks m g
  · run_from Cert.ReferenceIdeal.Value.run m' g'
    obtain ⟨fn, fc, fw⟩ := Cert.Pre_finite_scores.reals _ _ _ _ _ _ (hpre c)
    have h := Cert.KernelIdeal.Value.final m c fn fc fw
    obtain ⟨h0, h1, h2, h3, h4, h5⟩ := hagree c
    rw [← h0, ← h1, ← h2, ← h3, ← h4, ← h5] at h
    exact (Cert.ReferenceIdeal.Read.val_main_v88_eq m' c).trans h.symm

/-- The attention's reference terminates and leaves its arguments as they were. -/
theorem attentionRef_frame [hR : Cert.ReferenceIdeal.Facts] : Cert.quiescent_ReferenceIdeal := by
  intro m g _
  hlo_run
  · intro c; simp
  · funext g
    rcases g with ⟨_, s | s⟩ <;> exact Fin.elim0 s

/-- The query's factor is 1 / (√128 · ln 2), which the kernel's literal rounds. -/
theorem attention_preserves : Cert.preserves_Kernel_KernelIdeal :=
  IdealRules.named_const.statement Cert.KernelIdeal.κ "q_scale" .f32 0x3E0293EE#32 _ rfl

theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts,
    Cert.InprojCtx.Gen.facts, Cert.InprojCtxIdeal.Gen.facts, Cert.InprojCtxRefIdeal.Gen.facts,
    Cert.Mod.Gen.facts, Cert.ModIdeal.Gen.facts, Cert.ModRefIdeal.Gen.facts,
    Cert.Pre_finite_scores.facts,
    fun m ρ _ => Cert.Kernel.Gen.frame m ρ, fun m ρ _ => Cert.KernelIdeal.Gen.frame m ρ,
    fun m ρ _ => Cert.KernelIdeal.Gen.frame m ρ,
    attentionRef_frame, fun m ρ _ => attentionRef_frame m ρ trivial,
    fun m ρ _ => Cert.Merge.Gen.frame m ρ, fun m ρ _ => Cert.MergeIdeal.Gen.frame m ρ,
    mergeRef_frame,
    fun m ρ _ => Cert.Inproj.Gen.frame m ρ, fun m ρ _ => Cert.InprojIdeal.Gen.frame m ρ,
    inprojRef_frame,
    fun m ρ _ => Cert.InprojCtx.Gen.frame m ρ, fun m ρ _ => Cert.InprojCtxIdeal.Gen.frame m ρ,
    inprojCtxRef_frame,
    fun m ρ _ => Cert.Mod.Gen.frame m ρ, fun m ρ _ => Cert.ModIdeal.Gen.frame m ρ,
    modRef_frame,
    attention_preserves, attention_algebraic (hP := Cert.Pre_finite_scores.facts),
    trivial, merge_algebraic, trivial, inproj_algebraic, trivial, inprojCtx_algebraic,
    trivial, mod_algebraic⟩

end Cert.Proof
